-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S8x128x512 : Shape := ⟨3, ![8, 128, 512]⟩
abbrev S8x2 : Shape := ⟨2, ![8, 2]⟩
abbrev S_ : Shape := ⟨0, ![]⟩
abbrev S1024x256 : Shape := ⟨2, ![1024, 256]⟩
abbrev S1x1 : Shape := ⟨2, ![1, 1]⟩
abbrev S1x128x256 : Shape := ⟨3, ![1, 128, 256]⟩
abbrev S128x256 : Shape := ⟨2, ![128, 256]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .bf16⟩
  | .hbm, ⟨1, _⟩ => ⟨S1024x512, .f32⟩
  | .local _ .vmem, ⟨0, _⟩ => ⟨S1024x512, .bf16⟩
  | .local _ .vmem, ⟨1, _⟩ => ⟨S1024x512, .f32⟩
  | .local _ .vmem, ⟨2, _⟩ => ⟨S1024x512, .bf16⟩
  | .local _ .vmem, ⟨3, _⟩ => ⟨S8x128x512, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_67 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v100 : BitVec 32 := Scalar.addi v2 c1_i32_67
  let c8_i32_68 : BitVec 32 := 8#32
  let c0_i32_69 : BitVec 32 := 0#32
  let v101 : BitVec 1 := Scalar.cmpi .eq c8_i32_68 c0_i32_69
  let c1_i32_70 : BitVec 32 := 1#32
  let v102 : BitVec 32 := Scalar.select v101 c1_i32_70 c8_i32_68
  let v103 : BitVec 32 := Scalar.remsi v100 v102
  let c0_i32_72 : BitVec 32 := 0#32
  let v105 : BitVec 1 := Scalar.cmpi .slt v103 c0_i32_72
  let c0_i32_73 : BitVec 32 := 0#32
  let v106 : BitVec 1 := Scalar.cmpi .slt v102 c0_i32_73
  let v107 : BitVec 1 := Scalar.xori v105 v106
  let c0_i32_71 : BitVec 32 := 0#32
  let v104 : BitVec 1 := Scalar.cmpi .ne v103 c0_i32_71
  let v108 : BitVec 1 := Scalar.andi v107 v104
  let v109 : BitVec 32 := Scalar.addi v103 v102
  let v110 : BitVec 32 := Scalar.select v108 v109 v103
  let c128_i32 : BitVec 32 := 128#32
  let v111 : BitVec 32 := Scalar.muli v110 c128_i32
  let c0_i32_83 : BitVec 32 := 0#32
  ![v111.toNat, 0]
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_67 : BitVec 32 := 1#32
  let v100 : BitVec 32 := Scalar.addi v2 c1_i32_67
  let c8_i32_68 : BitVec 32 := 8#32
  let c0_i32_69 : BitVec 32 := 0#32
  let v101 : BitVec 1 := Scalar.cmpi .eq c8_i32_68 c0_i32_69
  let c1_i32_70 : BitVec 32 := 1#32
  let v102 : BitVec 32 := Scalar.select v101 c1_i32_70 c8_i32_68
  let v103 : BitVec 32 := Scalar.remsi v100 v102
  let c0_i32_72 : BitVec 32 := 0#32
  let v105 : BitVec 1 := Scalar.cmpi .slt v103 c0_i32_72
  let c0_i32_73 : BitVec 32 := 0#32
  let v106 : BitVec 1 := Scalar.cmpi .slt v102 c0_i32_73
  let v107 : BitVec 1 := Scalar.xori v105 v106
  let c0_i32_71 : BitVec 32 := 0#32
  let v104 : BitVec 1 := Scalar.cmpi .ne v103 c0_i32_71
  let v108 : BitVec 1 := Scalar.andi v107 v104
  let v109 : BitVec 32 := Scalar.addi v103 v102
  let v110 : BitVec 32 := Scalar.select v108 v109 v103
  let c1_i32_79 : BitVec 32 := 1#32
  let v112 : BitVec 32 := Scalar.muli v110 c1_i32_79
  let v113 : BitVec 32 := Scalar.addi c0_i32_80 v112
  v113.toNat
def k0_dev9 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v121 : BitVec 32 := Scalar.addi v2 c2_i32_84
  let c8_i32_85 : BitVec 32 := 8#32
  let c0_i32_86 : BitVec 32 := 0#32
  let v122 : BitVec 1 := Scalar.cmpi .eq c8_i32_85 c0_i32_86
  let c1_i32_87 : BitVec 32 := 1#32
  let v123 : BitVec 32 := Scalar.select v122 c1_i32_87 c8_i32_85
  let v124 : BitVec 32 := Scalar.remsi v121 v123
  let c0_i32_89 : BitVec 32 := 0#32
  let v126 : BitVec 1 := Scalar.cmpi .slt v124 c0_i32_89
  let c0_i32_90 : BitVec 32 := 0#32
  let v127 : BitVec 1 := Scalar.cmpi .slt v123 c0_i32_90
  let v128 : BitVec 1 := Scalar.xori v126 v127
  let c0_i32_88 : BitVec 32 := 0#32
  let v125 : BitVec 1 := Scalar.cmpi .ne v124 c0_i32_88
  let v129 : BitVec 1 := Scalar.andi v128 v125
  let v130 : BitVec 32 := Scalar.addi v124 v123
  let v131 : BitVec 32 := Scalar.select v129 v130 v124
  let c1_i32_97 : BitVec 32 := 1#32
  let v133 : BitVec 32 := Scalar.muli v131 c1_i32_97
  let v134 : BitVec 32 := Scalar.addi c0_i32_98 v133
  v134.toNat
def k0_dev10 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_102 : BitVec 32 := 3#32
  let v142 : BitVec 32 := Scalar.addi v2 c3_i32_102
  let c8_i32_103 : BitVec 32 := 8#32
  let c0_i32_104 : BitVec 32 := 0#32
  let v143 : BitVec 1 := Scalar.cmpi .eq c8_i32_103 c0_i32_104
  let c1_i32_105 : BitVec 32 := 1#32
  let v144 : BitVec 32 := Scalar.select v143 c1_i32_105 c8_i32_103
  let v145 : BitVec 32 := Scalar.remsi v142 v144
  let c0_i32_107 : BitVec 32 := 0#32
  let v147 : BitVec 1 := Scalar.cmpi .slt v145 c0_i32_107
  let c0_i32_108 : BitVec 32 := 0#32
  let v148 : BitVec 1 := Scalar.cmpi .slt v144 c0_i32_108
  let v149 : BitVec 1 := Scalar.xori v147 v148
  let c0_i32_106 : BitVec 32 := 0#32
  let v146 : BitVec 1 := Scalar.cmpi .ne v145 c0_i32_106
  let v150 : BitVec 1 := Scalar.andi v149 v146
  let v151 : BitVec 32 := Scalar.addi v145 v144
  let v152 : BitVec 32 := Scalar.select v150 v151 v145
  let c1_i32_115 : BitVec 32 := 1#32
  let v154 : BitVec 32 := Scalar.muli v152 c1_i32_115
  let v155 : BitVec 32 := Scalar.addi c0_i32_116 v154
  v155.toNat
def k0_dev11 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_120 : BitVec 32 := 4#32
  let v163 : BitVec 32 := Scalar.addi v2 c4_i32_120
  let c8_i32_121 : BitVec 32 := 8#32
  let c0_i32_122 : BitVec 32 := 0#32
  let v164 : BitVec 1 := Scalar.cmpi .eq c8_i32_121 c0_i32_122
  let c1_i32_123 : BitVec 32 := 1#32
  let v165 : BitVec 32 := Scalar.select v164 c1_i32_123 c8_i32_121
  let v166 : BitVec 32 := Scalar.remsi v163 v165
  let c0_i32_125 : BitVec 32 := 0#32
  let v168 : BitVec 1 := Scalar.cmpi .slt v166 c0_i32_125
  let c0_i32_126 : BitVec 32 := 0#32
  let v169 : BitVec 1 := Scalar.cmpi .slt v165 c0_i32_126
  let v170 : BitVec 1 := Scalar.xori v168 v169
  let c0_i32_124 : BitVec 32 := 0#32
  let v167 : BitVec 1 := Scalar.cmpi .ne v166 c0_i32_124
  let v171 : BitVec 1 := Scalar.andi v170 v167
  let v172 : BitVec 32 := Scalar.addi v166 v165
  let v173 : BitVec 32 := Scalar.select v171 v172 v166
  let c1_i32_133 : BitVec 32 := 1#32
  let v175 : BitVec 32 := Scalar.muli v173 c1_i32_133
  let v176 : BitVec 32 := Scalar.addi c0_i32_134 v175
  v176.toNat
def k0_dev12 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_138 : BitVec 32 := 5#32
  let v184 : BitVec 32 := Scalar.addi v2 c5_i32_138
  let c8_i32_139 : BitVec 32 := 8#32
  let c0_i32_140 : BitVec 32 := 0#32
  let v185 : BitVec 1 := Scalar.cmpi .eq c8_i32_139 c0_i32_140
  let c1_i32_141 : BitVec 32 := 1#32
  let v186 : BitVec 32 := Scalar.select v185 c1_i32_141 c8_i32_139
  let v187 : BitVec 32 := Scalar.remsi v184 v186
  let c0_i32_143 : BitVec 32 := 0#32
  let v189 : BitVec 1 := Scalar.cmpi .slt v187 c0_i32_143
  let c0_i32_144 : BitVec 32 := 0#32
  let v190 : BitVec 1 := Scalar.cmpi .slt v186 c0_i32_144
  let v191 : BitVec 1 := Scalar.xori v189 v190
  let c0_i32_142 : BitVec 32 := 0#32
  let v188 : BitVec 1 := Scalar.cmpi .ne v187 c0_i32_142
  let v192 : BitVec 1 := Scalar.andi v191 v188
  let v193 : BitVec 32 := Scalar.addi v187 v186
  let v194 : BitVec 32 := Scalar.select v192 v193 v187
  let c1_i32_151 : BitVec 32 := 1#32
  let v196 : BitVec 32 := Scalar.muli v194 c1_i32_151
  let v197 : BitVec 32 := Scalar.addi c0_i32_152 v196
  v197.toNat
def k0_dev13 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_156 : BitVec 32 := 6#32
  let v205 : BitVec 32 := Scalar.addi v2 c6_i32_156
  let c8_i32_157 : BitVec 32 := 8#32
  let c0_i32_158 : BitVec 32 := 0#32
  let v206 : BitVec 1 := Scalar.cmpi .eq c8_i32_157 c0_i32_158
  let c1_i32_159 : BitVec 32 := 1#32
  let v207 : BitVec 32 := Scalar.select v206 c1_i32_159 c8_i32_157
  let v208 : BitVec 32 := Scalar.remsi v205 v207
  let c0_i32_161 : BitVec 32 := 0#32
  let v210 : BitVec 1 := Scalar.cmpi .slt v208 c0_i32_161
  let c0_i32_162 : BitVec 32 := 0#32
  let v211 : BitVec 1 := Scalar.cmpi .slt v207 c0_i32_162
  let v212 : BitVec 1 := Scalar.xori v210 v211
  let c0_i32_160 : BitVec 32 := 0#32
  let v209 : BitVec 1 := Scalar.cmpi .ne v208 c0_i32_160
  let v213 : BitVec 1 := Scalar.andi v212 v209
  let v214 : BitVec 32 := Scalar.addi v208 v207
  let v215 : BitVec 32 := Scalar.select v213 v214 v208
  let c1_i32_169 : BitVec 32 := 1#32
  let v217 : BitVec 32 := Scalar.muli v215 c1_i32_169
  let v218 : BitVec 32 := Scalar.addi c0_i32_170 v217
  v218.toNat
def k0_dev14 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_174 : BitVec 32 := 7#32
  let v226 : BitVec 32 := Scalar.addi v2 c7_i32_174
  let c8_i32_175 : BitVec 32 := 8#32
  let c0_i32_176 : BitVec 32 := 0#32
  let v227 : BitVec 1 := Scalar.cmpi .eq c8_i32_175 c0_i32_176
  let c1_i32_177 : BitVec 32 := 1#32
  let v228 : BitVec 32 := Scalar.select v227 c1_i32_177 c8_i32_175
  let v229 : BitVec 32 := Scalar.remsi v226 v228
  let c0_i32_179 : BitVec 32 := 0#32
  let v231 : BitVec 1 := Scalar.cmpi .slt v229 c0_i32_179
  let c0_i32_180 : BitVec 32 := 0#32
  let v232 : BitVec 1 := Scalar.cmpi .slt v228 c0_i32_180
  let v233 : BitVec 1 := Scalar.xori v231 v232
  let c0_i32_178 : BitVec 32 := 0#32
  let v230 : BitVec 1 := Scalar.cmpi .ne v229 c0_i32_178
  let v234 : BitVec 1 := Scalar.andi v233 v230
  let v235 : BitVec 32 := Scalar.addi v229 v228
  let v236 : BitVec 32 := Scalar.select v234 v235 v229
  let c1_i32_187 : BitVec 32 := 1#32
  let v238 : BitVec 32 := Scalar.muli v236 c1_i32_187
  let v239 : BitVec 32 := Scalar.addi c0_i32_188 v238
  v239.toNat
def k0_off2 (d0 : Dev nD) (c1_i32_195 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v252 : BitVec 32 := Scalar.addi v2 c1_i32_195
  let c8_i32_196 : BitVec 32 := 8#32
  let c0_i32_197 : BitVec 32 := 0#32
  let v253 : BitVec 1 := Scalar.cmpi .eq c8_i32_196 c0_i32_197
  let c1_i32_198 : BitVec 32 := 1#32
  let v254 : BitVec 32 := Scalar.select v253 c1_i32_198 c8_i32_196
  let v255 : BitVec 32 := Scalar.remsi v252 v254
  let c0_i32_200 : BitVec 32 := 0#32
  let v257 : BitVec 1 := Scalar.cmpi .slt v255 c0_i32_200
  let c0_i32_201 : BitVec 32 := 0#32
  let v258 : BitVec 1 := Scalar.cmpi .slt v254 c0_i32_201
  let v259 : BitVec 1 := Scalar.xori v257 v258
  let c0_i32_199 : BitVec 32 := 0#32
  let v256 : BitVec 1 := Scalar.cmpi .ne v255 c0_i32_199
  let v260 : BitVec 1 := Scalar.andi v259 v256
  let v261 : BitVec 32 := Scalar.addi v255 v254
  let v262 : BitVec 32 := Scalar.select v260 v261 v255
  let c128_i32_202 : BitVec 32 := 128#32
  let v263 : BitVec 32 := Scalar.muli v262 c128_i32_202
  let c256_i32_211 : BitVec 32 := 256#32
  ![v263.toNat, 256]
def k0_dev15 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_195 : BitVec 32 := 1#32
  let v252 : BitVec 32 := Scalar.addi v2 c1_i32_195
  let c8_i32_196 : BitVec 32 := 8#32
  let c0_i32_197 : BitVec 32 := 0#32
  let v253 : BitVec 1 := Scalar.cmpi .eq c8_i32_196 c0_i32_197
  let c1_i32_198 : BitVec 32 := 1#32
  let v254 : BitVec 32 := Scalar.select v253 c1_i32_198 c8_i32_196
  let v255 : BitVec 32 := Scalar.remsi v252 v254
  let c0_i32_200 : BitVec 32 := 0#32
  let v257 : BitVec 1 := Scalar.cmpi .slt v255 c0_i32_200
  let c0_i32_201 : BitVec 32 := 0#32
  let v258 : BitVec 1 := Scalar.cmpi .slt v254 c0_i32_201
  let v259 : BitVec 1 := Scalar.xori v257 v258
  let c0_i32_199 : BitVec 32 := 0#32
  let v256 : BitVec 1 := Scalar.cmpi .ne v255 c0_i32_199
  let v260 : BitVec 1 := Scalar.andi v259 v256
  let v261 : BitVec 32 := Scalar.addi v255 v254
  let v262 : BitVec 32 := Scalar.select v260 v261 v255
  let c1_i32_208 : BitVec 32 := 1#32
  let v264 : BitVec 32 := Scalar.muli v262 c1_i32_208
  let v265 : BitVec 32 := Scalar.addi c0_i32_209 v264
  v265.toNat
def k0_dev16 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_212 : BitVec 32 := 2#32
  let v273 : BitVec 32 := Scalar.addi v2 c2_i32_212
  let c8_i32_213 : BitVec 32 := 8#32
  let c0_i32_214 : BitVec 32 := 0#32
  let v274 : BitVec 1 := Scalar.cmpi .eq c8_i32_213 c0_i32_214
  let c1_i32_215 : BitVec 32 := 1#32
  let v275 : BitVec 32 := Scalar.select v274 c1_i32_215 c8_i32_213
  let v276 : BitVec 32 := Scalar.remsi v273 v275
  let c0_i32_217 : BitVec 32 := 0#32
  let v278 : BitVec 1 := Scalar.cmpi .slt v276 c0_i32_217
  let c0_i32_218 : BitVec 32 := 0#32
  let v279 : BitVec 1 := Scalar.cmpi .slt v275 c0_i32_218
  let v280 : BitVec 1 := Scalar.xori v278 v279
  let c0_i32_216 : BitVec 32 := 0#32
  let v277 : BitVec 1 := Scalar.cmpi .ne v276 c0_i32_216
  let v281 : BitVec 1 := Scalar.andi v280 v277
  let v282 : BitVec 32 := Scalar.addi v276 v275
  let v283 : BitVec 32 := Scalar.select v281 v282 v276
  let c1_i32_225 : BitVec 32 := 1#32
  let v285 : BitVec 32 := Scalar.muli v283 c1_i32_225
  let v286 : BitVec 32 := Scalar.addi c0_i32_226 v285
  v286.toNat
def k0_dev17 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_230 : BitVec 32 := 3#32
  let v294 : BitVec 32 := Scalar.addi v2 c3_i32_230
  let c8_i32_231 : BitVec 32 := 8#32
  let c0_i32_232 : BitVec 32 := 0#32
  let v295 : BitVec 1 := Scalar.cmpi .eq c8_i32_231 c0_i32_232
  let c1_i32_233 : BitVec 32 := 1#32
  let v296 : BitVec 32 := Scalar.select v295 c1_i32_233 c8_i32_231
  let v297 : BitVec 32 := Scalar.remsi v294 v296
  let c0_i32_235 : BitVec 32 := 0#32
  let v299 : BitVec 1 := Scalar.cmpi .slt v297 c0_i32_235
  let c0_i32_236 : BitVec 32 := 0#32
  let v300 : BitVec 1 := Scalar.cmpi .slt v296 c0_i32_236
  let v301 : BitVec 1 := Scalar.xori v299 v300
  let c0_i32_234 : BitVec 32 := 0#32
  let v298 : BitVec 1 := Scalar.cmpi .ne v297 c0_i32_234
  let v302 : BitVec 1 := Scalar.andi v301 v298
  let v303 : BitVec 32 := Scalar.addi v297 v296
  let v304 : BitVec 32 := Scalar.select v302 v303 v297
  let c1_i32_243 : BitVec 32 := 1#32
  let v306 : BitVec 32 := Scalar.muli v304 c1_i32_243
  let v307 : BitVec 32 := Scalar.addi c0_i32_244 v306
  v307.toNat
def k0_dev18 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_248 : BitVec 32 := 4#32
  let v315 : BitVec 32 := Scalar.addi v2 c4_i32_248
  let c8_i32_249 : BitVec 32 := 8#32
  let c0_i32_250 : BitVec 32 := 0#32
  let v316 : BitVec 1 := Scalar.cmpi .eq c8_i32_249 c0_i32_250
  let c1_i32_251 : BitVec 32 := 1#32
  let v317 : BitVec 32 := Scalar.select v316 c1_i32_251 c8_i32_249
  let v318 : BitVec 32 := Scalar.remsi v315 v317
  let c0_i32_253 : BitVec 32 := 0#32
  let v320 : BitVec 1 := Scalar.cmpi .slt v318 c0_i32_253
  let c0_i32_254 : BitVec 32 := 0#32
  let v321 : BitVec 1 := Scalar.cmpi .slt v317 c0_i32_254
  let v322 : BitVec 1 := Scalar.xori v320 v321
  let c0_i32_252 : BitVec 32 := 0#32
  let v319 : BitVec 1 := Scalar.cmpi .ne v318 c0_i32_252
  let v323 : BitVec 1 := Scalar.andi v322 v319
  let v324 : BitVec 32 := Scalar.addi v318 v317
  let v325 : BitVec 32 := Scalar.select v323 v324 v318
  let c1_i32_261 : BitVec 32 := 1#32
  let v327 : BitVec 32 := Scalar.muli v325 c1_i32_261
  let v328 : BitVec 32 := Scalar.addi c0_i32_262 v327
  v328.toNat
def k0_dev19 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_266 : BitVec 32 := 5#32
  let v336 : BitVec 32 := Scalar.addi v2 c5_i32_266
  let c8_i32_267 : BitVec 32 := 8#32
  let c0_i32_268 : BitVec 32 := 0#32
  let v337 : BitVec 1 := Scalar.cmpi .eq c8_i32_267 c0_i32_268
  let c1_i32_269 : BitVec 32 := 1#32
  let v338 : BitVec 32 := Scalar.select v337 c1_i32_269 c8_i32_267
  let v339 : BitVec 32 := Scalar.remsi v336 v338
  let c0_i32_271 : BitVec 32 := 0#32
  let v341 : BitVec 1 := Scalar.cmpi .slt v339 c0_i32_271
  let c0_i32_272 : BitVec 32 := 0#32
  let v342 : BitVec 1 := Scalar.cmpi .slt v338 c0_i32_272
  let v343 : BitVec 1 := Scalar.xori v341 v342
  let c0_i32_270 : BitVec 32 := 0#32
  let v340 : BitVec 1 := Scalar.cmpi .ne v339 c0_i32_270
  let v344 : BitVec 1 := Scalar.andi v343 v340
  let v345 : BitVec 32 := Scalar.addi v339 v338
  let v346 : BitVec 32 := Scalar.select v344 v345 v339
  let c1_i32_279 : BitVec 32 := 1#32
  let v348 : BitVec 32 := Scalar.muli v346 c1_i32_279
  let v349 : BitVec 32 := Scalar.addi c0_i32_280 v348
  v349.toNat
def k0_dev20 (d0 : Dev nD) : Nat :=
  let c0_i32_298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_284 : BitVec 32 := 6#32
  let v357 : BitVec 32 := Scalar.addi v2 c6_i32_284
  let c8_i32_285 : BitVec 32 := 8#32
  let c0_i32_286 : BitVec 32 := 0#32
  let v358 : BitVec 1 := Scalar.cmpi .eq c8_i32_285 c0_i32_286
  let c1_i32_287 : BitVec 32 := 1#32
  let v359 : BitVec 32 := Scalar.select v358 c1_i32_287 c8_i32_285
  let v360 : BitVec 32 := Scalar.remsi v357 v359
  let c0_i32_289 : BitVec 32 := 0#32
  let v362 : BitVec 1 := Scalar.cmpi .slt v360 c0_i32_289
  let c0_i32_290 : BitVec 32 := 0#32
  let v363 : BitVec 1 := Scalar.cmpi .slt v359 c0_i32_290
  let v364 : BitVec 1 := Scalar.xori v362 v363
  let c0_i32_288 : BitVec 32 := 0#32
  let v361 : BitVec 1 := Scalar.cmpi .ne v360 c0_i32_288
  let v365 : BitVec 1 := Scalar.andi v364 v361
  let v366 : BitVec 32 := Scalar.addi v360 v359
  let v367 : BitVec 32 := Scalar.select v365 v366 v360
  let c1_i32_297 : BitVec 32 := 1#32
  let v369 : BitVec 32 := Scalar.muli v367 c1_i32_297
  let v370 : BitVec 32 := Scalar.addi c0_i32_298 v369
  v370.toNat
def k0_dev21 (d0 : Dev nD) : Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_302 : BitVec 32 := 7#32
  let v378 : BitVec 32 := Scalar.addi v2 c7_i32_302
  let c8_i32_303 : BitVec 32 := 8#32
  let c0_i32_304 : BitVec 32 := 0#32
  let v379 : BitVec 1 := Scalar.cmpi .eq c8_i32_303 c0_i32_304
  let c1_i32_305 : BitVec 32 := 1#32
  let v380 : BitVec 32 := Scalar.select v379 c1_i32_305 c8_i32_303
  let v381 : BitVec 32 := Scalar.remsi v378 v380
  let c0_i32_307 : BitVec 32 := 0#32
  let v383 : BitVec 1 := Scalar.cmpi .slt v381 c0_i32_307
  let c0_i32_308 : BitVec 32 := 0#32
  let v384 : BitVec 1 := Scalar.cmpi .slt v380 c0_i32_308
  let v385 : BitVec 1 := Scalar.xori v383 v384
  let c0_i32_306 : BitVec 32 := 0#32
  let v382 : BitVec 1 := Scalar.cmpi .ne v381 c0_i32_306
  let v386 : BitVec 1 := Scalar.andi v385 v382
  let v387 : BitVec 32 := Scalar.addi v381 v380
  let v388 : BitVec 32 := Scalar.select v386 v387 v381
  let c1_i32_315 : BitVec 32 := 1#32
  let v390 : BitVec 32 := Scalar.muli v388 c1_i32_315
  let v391 : BitVec 32 := Scalar.addi c0_i32_316 v390
  v391.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_320 : BitVec 32 := 128#32
  let v399 : BitVec 32 := Scalar.muli v2 c128_i32_320
  let v400 : Index := Scalar.indexCast v399
  let c0_321 : Index := 0#32
  ![v400.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_472 : BitVec 32 := 128#32
  let v566 : BitVec 32 := Scalar.muli v2 c128_i32_472
  let c0_i32_479 : BitVec 32 := 0#32
  ![v566.toNat, 0]
def k0_dev22 (d0 : Dev nD) : Nat :=
  let c0_i32_478 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_464 : BitVec 32 := 1#32
  let v554 : BitVec 32 := Scalar.addi v2 c1_i32_464
  let c8_i32_465 : BitVec 32 := 8#32
  let c0_i32_466 : BitVec 32 := 0#32
  let v555 : BitVec 1 := Scalar.cmpi .eq c8_i32_465 c0_i32_466
  let c1_i32_467 : BitVec 32 := 1#32
  let v556 : BitVec 32 := Scalar.select v555 c1_i32_467 c8_i32_465
  let v557 : BitVec 32 := Scalar.remsi v554 v556
  let c0_i32_469 : BitVec 32 := 0#32
  let v559 : BitVec 1 := Scalar.cmpi .slt v557 c0_i32_469
  let c0_i32_470 : BitVec 32 := 0#32
  let v560 : BitVec 1 := Scalar.cmpi .slt v556 c0_i32_470
  let v561 : BitVec 1 := Scalar.xori v559 v560
  let c0_i32_468 : BitVec 32 := 0#32
  let v558 : BitVec 1 := Scalar.cmpi .ne v557 c0_i32_468
  let v562 : BitVec 1 := Scalar.andi v561 v558
  let v563 : BitVec 32 := Scalar.addi v557 v556
  let v564 : BitVec 32 := Scalar.select v562 v563 v557
  let c1_i32_477 : BitVec 32 := 1#32
  let v567 : BitVec 32 := Scalar.muli v564 c1_i32_477
  let v568 : BitVec 32 := Scalar.addi c0_i32_478 v567
  v568.toNat
def k0_dev23 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_481 : BitVec 32 := 2#32
  let v575 : BitVec 32 := Scalar.addi v2 c2_i32_481
  let c8_i32_482 : BitVec 32 := 8#32
  let c0_i32_483 : BitVec 32 := 0#32
  let v576 : BitVec 1 := Scalar.cmpi .eq c8_i32_482 c0_i32_483
  let c1_i32_484 : BitVec 32 := 1#32
  let v577 : BitVec 32 := Scalar.select v576 c1_i32_484 c8_i32_482
  let v578 : BitVec 32 := Scalar.remsi v575 v577
  let c0_i32_486 : BitVec 32 := 0#32
  let v580 : BitVec 1 := Scalar.cmpi .slt v578 c0_i32_486
  let c0_i32_487 : BitVec 32 := 0#32
  let v581 : BitVec 1 := Scalar.cmpi .slt v577 c0_i32_487
  let v582 : BitVec 1 := Scalar.xori v580 v581
  let c0_i32_485 : BitVec 32 := 0#32
  let v579 : BitVec 1 := Scalar.cmpi .ne v578 c0_i32_485
  let v583 : BitVec 1 := Scalar.andi v582 v579
  let v584 : BitVec 32 := Scalar.addi v578 v577
  let v585 : BitVec 32 := Scalar.select v583 v584 v578
  let c1_i32_494 : BitVec 32 := 1#32
  let v588 : BitVec 32 := Scalar.muli v585 c1_i32_494
  let v589 : BitVec 32 := Scalar.addi c0_i32_495 v588
  v589.toNat
def k0_dev24 (d0 : Dev nD) : Nat :=
  let c0_i32_512 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_498 : BitVec 32 := 3#32
  let v596 : BitVec 32 := Scalar.addi v2 c3_i32_498
  let c8_i32_499 : BitVec 32 := 8#32
  let c0_i32_500 : BitVec 32 := 0#32
  let v597 : BitVec 1 := Scalar.cmpi .eq c8_i32_499 c0_i32_500
  let c1_i32_501 : BitVec 32 := 1#32
  let v598 : BitVec 32 := Scalar.select v597 c1_i32_501 c8_i32_499
  let v599 : BitVec 32 := Scalar.remsi v596 v598
  let c0_i32_503 : BitVec 32 := 0#32
  let v601 : BitVec 1 := Scalar.cmpi .slt v599 c0_i32_503
  let c0_i32_504 : BitVec 32 := 0#32
  let v602 : BitVec 1 := Scalar.cmpi .slt v598 c0_i32_504
  let v603 : BitVec 1 := Scalar.xori v601 v602
  let c0_i32_502 : BitVec 32 := 0#32
  let v600 : BitVec 1 := Scalar.cmpi .ne v599 c0_i32_502
  let v604 : BitVec 1 := Scalar.andi v603 v600
  let v605 : BitVec 32 := Scalar.addi v599 v598
  let v606 : BitVec 32 := Scalar.select v604 v605 v599
  let c1_i32_511 : BitVec 32 := 1#32
  let v609 : BitVec 32 := Scalar.muli v606 c1_i32_511
  let v610 : BitVec 32 := Scalar.addi c0_i32_512 v609
  v610.toNat
def k0_dev25 (d0 : Dev nD) : Nat :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_515 : BitVec 32 := 4#32
  let v617 : BitVec 32 := Scalar.addi v2 c4_i32_515
  let c8_i32_516 : BitVec 32 := 8#32
  let c0_i32_517 : BitVec 32 := 0#32
  let v618 : BitVec 1 := Scalar.cmpi .eq c8_i32_516 c0_i32_517
  let c1_i32_518 : BitVec 32 := 1#32
  let v619 : BitVec 32 := Scalar.select v618 c1_i32_518 c8_i32_516
  let v620 : BitVec 32 := Scalar.remsi v617 v619
  let c0_i32_520 : BitVec 32 := 0#32
  let v622 : BitVec 1 := Scalar.cmpi .slt v620 c0_i32_520
  let c0_i32_521 : BitVec 32 := 0#32
  let v623 : BitVec 1 := Scalar.cmpi .slt v619 c0_i32_521
  let v624 : BitVec 1 := Scalar.xori v622 v623
  let c0_i32_519 : BitVec 32 := 0#32
  let v621 : BitVec 1 := Scalar.cmpi .ne v620 c0_i32_519
  let v625 : BitVec 1 := Scalar.andi v624 v621
  let v626 : BitVec 32 := Scalar.addi v620 v619
  let v627 : BitVec 32 := Scalar.select v625 v626 v620
  let c1_i32_528 : BitVec 32 := 1#32
  let v630 : BitVec 32 := Scalar.muli v627 c1_i32_528
  let v631 : BitVec 32 := Scalar.addi c0_i32_529 v630
  v631.toNat
def k0_dev26 (d0 : Dev nD) : Nat :=
  let c0_i32_546 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_532 : BitVec 32 := 5#32
  let v638 : BitVec 32 := Scalar.addi v2 c5_i32_532
  let c8_i32_533 : BitVec 32 := 8#32
  let c0_i32_534 : BitVec 32 := 0#32
  let v639 : BitVec 1 := Scalar.cmpi .eq c8_i32_533 c0_i32_534
  let c1_i32_535 : BitVec 32 := 1#32
  let v640 : BitVec 32 := Scalar.select v639 c1_i32_535 c8_i32_533
  let v641 : BitVec 32 := Scalar.remsi v638 v640
  let c0_i32_537 : BitVec 32 := 0#32
  let v643 : BitVec 1 := Scalar.cmpi .slt v641 c0_i32_537
  let c0_i32_538 : BitVec 32 := 0#32
  let v644 : BitVec 1 := Scalar.cmpi .slt v640 c0_i32_538
  let v645 : BitVec 1 := Scalar.xori v643 v644
  let c0_i32_536 : BitVec 32 := 0#32
  let v642 : BitVec 1 := Scalar.cmpi .ne v641 c0_i32_536
  let v646 : BitVec 1 := Scalar.andi v645 v642
  let v647 : BitVec 32 := Scalar.addi v641 v640
  let v648 : BitVec 32 := Scalar.select v646 v647 v641
  let c1_i32_545 : BitVec 32 := 1#32
  let v651 : BitVec 32 := Scalar.muli v648 c1_i32_545
  let v652 : BitVec 32 := Scalar.addi c0_i32_546 v651
  v652.toNat
def k0_dev27 (d0 : Dev nD) : Nat :=
  let c0_i32_563 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_549 : BitVec 32 := 6#32
  let v659 : BitVec 32 := Scalar.addi v2 c6_i32_549
  let c8_i32_550 : BitVec 32 := 8#32
  let c0_i32_551 : BitVec 32 := 0#32
  let v660 : BitVec 1 := Scalar.cmpi .eq c8_i32_550 c0_i32_551
  let c1_i32_552 : BitVec 32 := 1#32
  let v661 : BitVec 32 := Scalar.select v660 c1_i32_552 c8_i32_550
  let v662 : BitVec 32 := Scalar.remsi v659 v661
  let c0_i32_554 : BitVec 32 := 0#32
  let v664 : BitVec 1 := Scalar.cmpi .slt v662 c0_i32_554
  let c0_i32_555 : BitVec 32 := 0#32
  let v665 : BitVec 1 := Scalar.cmpi .slt v661 c0_i32_555
  let v666 : BitVec 1 := Scalar.xori v664 v665
  let c0_i32_553 : BitVec 32 := 0#32
  let v663 : BitVec 1 := Scalar.cmpi .ne v662 c0_i32_553
  let v667 : BitVec 1 := Scalar.andi v666 v663
  let v668 : BitVec 32 := Scalar.addi v662 v661
  let v669 : BitVec 32 := Scalar.select v667 v668 v662
  let c1_i32_562 : BitVec 32 := 1#32
  let v672 : BitVec 32 := Scalar.muli v669 c1_i32_562
  let v673 : BitVec 32 := Scalar.addi c0_i32_563 v672
  v673.toNat
def k0_dev28 (d0 : Dev nD) : Nat :=
  let c0_i32_580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_566 : BitVec 32 := 7#32
  let v680 : BitVec 32 := Scalar.addi v2 c7_i32_566
  let c8_i32_567 : BitVec 32 := 8#32
  let c0_i32_568 : BitVec 32 := 0#32
  let v681 : BitVec 1 := Scalar.cmpi .eq c8_i32_567 c0_i32_568
  let c1_i32_569 : BitVec 32 := 1#32
  let v682 : BitVec 32 := Scalar.select v681 c1_i32_569 c8_i32_567
  let v683 : BitVec 32 := Scalar.remsi v680 v682
  let c0_i32_571 : BitVec 32 := 0#32
  let v685 : BitVec 1 := Scalar.cmpi .slt v683 c0_i32_571
  let c0_i32_572 : BitVec 32 := 0#32
  let v686 : BitVec 1 := Scalar.cmpi .slt v682 c0_i32_572
  let v687 : BitVec 1 := Scalar.xori v685 v686
  let c0_i32_570 : BitVec 32 := 0#32
  let v684 : BitVec 1 := Scalar.cmpi .ne v683 c0_i32_570
  let v688 : BitVec 1 := Scalar.andi v687 v684
  let v689 : BitVec 32 := Scalar.addi v683 v682
  let v690 : BitVec 32 := Scalar.select v688 v689 v683
  let c1_i32_579 : BitVec 32 := 1#32
  let v693 : BitVec 32 := Scalar.muli v690 c1_i32_579
  let v694 : BitVec 32 := Scalar.addi c0_i32_580 v693
  v694.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_583 : BitVec 32 := 128#32
  let v701 : BitVec 32 := Scalar.muli v2 c128_i32_583
  let v702 : Index := Scalar.indexCast v701
  let c256_584 : Index := 256#32
  ![v702.toNat, 256]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_742 : BitVec 32 := 128#32
  let v868 : BitVec 32 := Scalar.muli v2 c128_i32_742
  let c256_i32_749 : BitVec 32 := 256#32
  ![v868.toNat, 256]
def k0_dev29 (d0 : Dev nD) : Nat :=
  let c0_i32_748 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_734 : BitVec 32 := 1#32
  let v856 : BitVec 32 := Scalar.addi v2 c1_i32_734
  let c8_i32_735 : BitVec 32 := 8#32
  let c0_i32_736 : BitVec 32 := 0#32
  let v857 : BitVec 1 := Scalar.cmpi .eq c8_i32_735 c0_i32_736
  let c1_i32_737 : BitVec 32 := 1#32
  let v858 : BitVec 32 := Scalar.select v857 c1_i32_737 c8_i32_735
  let v859 : BitVec 32 := Scalar.remsi v856 v858
  let c0_i32_739 : BitVec 32 := 0#32
  let v861 : BitVec 1 := Scalar.cmpi .slt v859 c0_i32_739
  let c0_i32_740 : BitVec 32 := 0#32
  let v862 : BitVec 1 := Scalar.cmpi .slt v858 c0_i32_740
  let v863 : BitVec 1 := Scalar.xori v861 v862
  let c0_i32_738 : BitVec 32 := 0#32
  let v860 : BitVec 1 := Scalar.cmpi .ne v859 c0_i32_738
  let v864 : BitVec 1 := Scalar.andi v863 v860
  let v865 : BitVec 32 := Scalar.addi v859 v858
  let v866 : BitVec 32 := Scalar.select v864 v865 v859
  let c1_i32_747 : BitVec 32 := 1#32
  let v869 : BitVec 32 := Scalar.muli v866 c1_i32_747
  let v870 : BitVec 32 := Scalar.addi c0_i32_748 v869
  v870.toNat
def k0_dev30 (d0 : Dev nD) : Nat :=
  let c0_i32_765 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_751 : BitVec 32 := 2#32
  let v877 : BitVec 32 := Scalar.addi v2 c2_i32_751
  let c8_i32_752 : BitVec 32 := 8#32
  let c0_i32_753 : BitVec 32 := 0#32
  let v878 : BitVec 1 := Scalar.cmpi .eq c8_i32_752 c0_i32_753
  let c1_i32_754 : BitVec 32 := 1#32
  let v879 : BitVec 32 := Scalar.select v878 c1_i32_754 c8_i32_752
  let v880 : BitVec 32 := Scalar.remsi v877 v879
  let c0_i32_756 : BitVec 32 := 0#32
  let v882 : BitVec 1 := Scalar.cmpi .slt v880 c0_i32_756
  let c0_i32_757 : BitVec 32 := 0#32
  let v883 : BitVec 1 := Scalar.cmpi .slt v879 c0_i32_757
  let v884 : BitVec 1 := Scalar.xori v882 v883
  let c0_i32_755 : BitVec 32 := 0#32
  let v881 : BitVec 1 := Scalar.cmpi .ne v880 c0_i32_755
  let v885 : BitVec 1 := Scalar.andi v884 v881
  let v886 : BitVec 32 := Scalar.addi v880 v879
  let v887 : BitVec 32 := Scalar.select v885 v886 v880
  let c1_i32_764 : BitVec 32 := 1#32
  let v890 : BitVec 32 := Scalar.muli v887 c1_i32_764
  let v891 : BitVec 32 := Scalar.addi c0_i32_765 v890
  v891.toNat
def k0_dev31 (d0 : Dev nD) : Nat :=
  let c0_i32_782 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_768 : BitVec 32 := 3#32
  let v898 : BitVec 32 := Scalar.addi v2 c3_i32_768
  let c8_i32_769 : BitVec 32 := 8#32
  let c0_i32_770 : BitVec 32 := 0#32
  let v899 : BitVec 1 := Scalar.cmpi .eq c8_i32_769 c0_i32_770
  let c1_i32_771 : BitVec 32 := 1#32
  let v900 : BitVec 32 := Scalar.select v899 c1_i32_771 c8_i32_769
  let v901 : BitVec 32 := Scalar.remsi v898 v900
  let c0_i32_773 : BitVec 32 := 0#32
  let v903 : BitVec 1 := Scalar.cmpi .slt v901 c0_i32_773
  let c0_i32_774 : BitVec 32 := 0#32
  let v904 : BitVec 1 := Scalar.cmpi .slt v900 c0_i32_774
  let v905 : BitVec 1 := Scalar.xori v903 v904
  let c0_i32_772 : BitVec 32 := 0#32
  let v902 : BitVec 1 := Scalar.cmpi .ne v901 c0_i32_772
  let v906 : BitVec 1 := Scalar.andi v905 v902
  let v907 : BitVec 32 := Scalar.addi v901 v900
  let v908 : BitVec 32 := Scalar.select v906 v907 v901
  let c1_i32_781 : BitVec 32 := 1#32
  let v911 : BitVec 32 := Scalar.muli v908 c1_i32_781
  let v912 : BitVec 32 := Scalar.addi c0_i32_782 v911
  v912.toNat
def k0_dev32 (d0 : Dev nD) : Nat :=
  let c0_i32_799 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_785 : BitVec 32 := 4#32
  let v919 : BitVec 32 := Scalar.addi v2 c4_i32_785
  let c8_i32_786 : BitVec 32 := 8#32
  let c0_i32_787 : BitVec 32 := 0#32
  let v920 : BitVec 1 := Scalar.cmpi .eq c8_i32_786 c0_i32_787
  let c1_i32_788 : BitVec 32 := 1#32
  let v921 : BitVec 32 := Scalar.select v920 c1_i32_788 c8_i32_786
  let v922 : BitVec 32 := Scalar.remsi v919 v921
  let c0_i32_790 : BitVec 32 := 0#32
  let v924 : BitVec 1 := Scalar.cmpi .slt v922 c0_i32_790
  let c0_i32_791 : BitVec 32 := 0#32
  let v925 : BitVec 1 := Scalar.cmpi .slt v921 c0_i32_791
  let v926 : BitVec 1 := Scalar.xori v924 v925
  let c0_i32_789 : BitVec 32 := 0#32
  let v923 : BitVec 1 := Scalar.cmpi .ne v922 c0_i32_789
  let v927 : BitVec 1 := Scalar.andi v926 v923
  let v928 : BitVec 32 := Scalar.addi v922 v921
  let v929 : BitVec 32 := Scalar.select v927 v928 v922
  let c1_i32_798 : BitVec 32 := 1#32
  let v932 : BitVec 32 := Scalar.muli v929 c1_i32_798
  let v933 : BitVec 32 := Scalar.addi c0_i32_799 v932
  v933.toNat
def k0_dev33 (d0 : Dev nD) : Nat :=
  let c0_i32_816 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_802 : BitVec 32 := 5#32
  let v940 : BitVec 32 := Scalar.addi v2 c5_i32_802
  let c8_i32_803 : BitVec 32 := 8#32
  let c0_i32_804 : BitVec 32 := 0#32
  let v941 : BitVec 1 := Scalar.cmpi .eq c8_i32_803 c0_i32_804
  let c1_i32_805 : BitVec 32 := 1#32
  let v942 : BitVec 32 := Scalar.select v941 c1_i32_805 c8_i32_803
  let v943 : BitVec 32 := Scalar.remsi v940 v942
  let c0_i32_807 : BitVec 32 := 0#32
  let v945 : BitVec 1 := Scalar.cmpi .slt v943 c0_i32_807
  let c0_i32_808 : BitVec 32 := 0#32
  let v946 : BitVec 1 := Scalar.cmpi .slt v942 c0_i32_808
  let v947 : BitVec 1 := Scalar.xori v945 v946
  let c0_i32_806 : BitVec 32 := 0#32
  let v944 : BitVec 1 := Scalar.cmpi .ne v943 c0_i32_806
  let v948 : BitVec 1 := Scalar.andi v947 v944
  let v949 : BitVec 32 := Scalar.addi v943 v942
  let v950 : BitVec 32 := Scalar.select v948 v949 v943
  let c1_i32_815 : BitVec 32 := 1#32
  let v953 : BitVec 32 := Scalar.muli v950 c1_i32_815
  let v954 : BitVec 32 := Scalar.addi c0_i32_816 v953
  v954.toNat
def k0_dev34 (d0 : Dev nD) : Nat :=
  let c0_i32_833 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_819 : BitVec 32 := 6#32
  let v961 : BitVec 32 := Scalar.addi v2 c6_i32_819
  let c8_i32_820 : BitVec 32 := 8#32
  let c0_i32_821 : BitVec 32 := 0#32
  let v962 : BitVec 1 := Scalar.cmpi .eq c8_i32_820 c0_i32_821
  let c1_i32_822 : BitVec 32 := 1#32
  let v963 : BitVec 32 := Scalar.select v962 c1_i32_822 c8_i32_820
  let v964 : BitVec 32 := Scalar.remsi v961 v963
  let c0_i32_824 : BitVec 32 := 0#32
  let v966 : BitVec 1 := Scalar.cmpi .slt v964 c0_i32_824
  let c0_i32_825 : BitVec 32 := 0#32
  let v967 : BitVec 1 := Scalar.cmpi .slt v963 c0_i32_825
  let v968 : BitVec 1 := Scalar.xori v966 v967
  let c0_i32_823 : BitVec 32 := 0#32
  let v965 : BitVec 1 := Scalar.cmpi .ne v964 c0_i32_823
  let v969 : BitVec 1 := Scalar.andi v968 v965
  let v970 : BitVec 32 := Scalar.addi v964 v963
  let v971 : BitVec 32 := Scalar.select v969 v970 v964
  let c1_i32_832 : BitVec 32 := 1#32
  let v974 : BitVec 32 := Scalar.muli v971 c1_i32_832
  let v975 : BitVec 32 := Scalar.addi c0_i32_833 v974
  v975.toNat
def k0_dev35 (d0 : Dev nD) : Nat :=
  let c0_i32_850 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_836 : BitVec 32 := 7#32
  let v982 : BitVec 32 := Scalar.addi v2 c7_i32_836
  let c8_i32_837 : BitVec 32 := 8#32
  let c0_i32_838 : BitVec 32 := 0#32
  let v983 : BitVec 1 := Scalar.cmpi .eq c8_i32_837 c0_i32_838
  let c1_i32_839 : BitVec 32 := 1#32
  let v984 : BitVec 32 := Scalar.select v983 c1_i32_839 c8_i32_837
  let v985 : BitVec 32 := Scalar.remsi v982 v984
  let c0_i32_841 : BitVec 32 := 0#32
  let v987 : BitVec 1 := Scalar.cmpi .slt v985 c0_i32_841
  let c0_i32_842 : BitVec 32 := 0#32
  let v988 : BitVec 1 := Scalar.cmpi .slt v984 c0_i32_842
  let v989 : BitVec 1 := Scalar.xori v987 v988
  let c0_i32_840 : BitVec 32 := 0#32
  let v986 : BitVec 1 := Scalar.cmpi .ne v985 c0_i32_840
  let v990 : BitVec 1 := Scalar.andi v989 v986
  let v991 : BitVec 32 := Scalar.addi v985 v984
  let v992 : BitVec 32 := Scalar.select v990 v991 v985
  let c1_i32_849 : BitVec 32 := 1#32
  let v995 : BitVec 32 := Scalar.muli v992 c1_i32_849
  let v996 : BitVec 32 := Scalar.addi c0_i32_850 v995
  v996.toNat
def k0_off7 (d0 : Dev nD) (c1_i32_853 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1003 : BitVec 32 := Scalar.subi v2 c1_i32_853
  let c8_i32_854 : BitVec 32 := 8#32
  let c0_i32_855 : BitVec 32 := 0#32
  let v1004 : BitVec 1 := Scalar.cmpi .eq c8_i32_854 c0_i32_855
  let c1_i32_856 : BitVec 32 := 1#32
  let v1005 : BitVec 32 := Scalar.select v1004 c1_i32_856 c8_i32_854
  let v1006 : BitVec 32 := Scalar.remsi v1003 v1005
  let c0_i32_858 : BitVec 32 := 0#32
  let v1008 : BitVec 1 := Scalar.cmpi .slt v1006 c0_i32_858
  let c0_i32_859 : BitVec 32 := 0#32
  let v1009 : BitVec 1 := Scalar.cmpi .slt v1005 c0_i32_859
  let v1010 : BitVec 1 := Scalar.xori v1008 v1009
  let c0_i32_857 : BitVec 32 := 0#32
  let v1007 : BitVec 1 := Scalar.cmpi .ne v1006 c0_i32_857
  let v1011 : BitVec 1 := Scalar.andi v1010 v1007
  let v1012 : BitVec 32 := Scalar.addi v1006 v1005
  let v1013 : BitVec 32 := Scalar.select v1011 v1012 v1006
  let c128_i32_860 : BitVec 32 := 128#32
  let v1014 : BitVec 32 := Scalar.muli v1013 c128_i32_860
  let c0_i32_867 : BitVec 32 := 0#32
  ![v1014.toNat, 0]
def k0_off8 (d0 : Dev nD) (c1_i32_976 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1132 : BitVec 32 := Scalar.subi v2 c1_i32_976
  let c8_i32_977 : BitVec 32 := 8#32
  let c0_i32_978 : BitVec 32 := 0#32
  let v1133 : BitVec 1 := Scalar.cmpi .eq c8_i32_977 c0_i32_978
  let c1_i32_979 : BitVec 32 := 1#32
  let v1134 : BitVec 32 := Scalar.select v1133 c1_i32_979 c8_i32_977
  let v1135 : BitVec 32 := Scalar.remsi v1132 v1134
  let c0_i32_981 : BitVec 32 := 0#32
  let v1137 : BitVec 1 := Scalar.cmpi .slt v1135 c0_i32_981
  let c0_i32_982 : BitVec 32 := 0#32
  let v1138 : BitVec 1 := Scalar.cmpi .slt v1134 c0_i32_982
  let v1139 : BitVec 1 := Scalar.xori v1137 v1138
  let c0_i32_980 : BitVec 32 := 0#32
  let v1136 : BitVec 1 := Scalar.cmpi .ne v1135 c0_i32_980
  let v1140 : BitVec 1 := Scalar.andi v1139 v1136
  let v1141 : BitVec 32 := Scalar.addi v1135 v1134
  let v1142 : BitVec 32 := Scalar.select v1140 v1141 v1135
  let c128_i32_983 : BitVec 32 := 128#32
  let v1143 : BitVec 32 := Scalar.muli v1142 c128_i32_983
  let c256_i32_990 : BitVec 32 := 256#32
  ![v1143.toNat, 256]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩
abbrev S8x1024x512 : Shape := ⟨3, ![8, 1024, 512]⟩
abbrev S_ : Shape := ⟨0, ![]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8x1024x512, .bf16⟩
  | .hbm, ⟨2, _⟩ => ⟨S8x1024x512, .f32⟩
  | .hbm, ⟨3, _⟩ => ⟨S_, .f32⟩
  | .hbm, ⟨4, _⟩ => ⟨S1024x512, .f32⟩
  | .hbm, ⟨5, _⟩ => ⟨S1024x512, .bf16⟩
  | .hbm, ⟨6, _⟩ => ⟨S1024x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Cells.lean ====
/-
The names this proof uses for what the kernel addresses: the neighbours at distance `k` on the ring of eight devices,
the row blocks and column halves of the exchange buffer, the slots of the receive buffer, the four families of
sixteen transfer semaphores, and the printed offsets and device chains in those terms.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Quiescent

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The ring of eight devices -/

set_option backward.proofsInPublic true in
/-- The device `k` places after `c`; -/
def fwd (c : Dev nD) (k : Fin 8) : Dev nD := ⟨(c.val + k.val) % 8, Nat.mod_lt _ (by decide)⟩
set_option backward.proofsInPublic true in
/-- the device `k` places before `c`; -/
def bwd (c : Dev nD) (k : Fin 8) : Dev nD := ⟨(c.val + 8 - k.val) % 8, Nat.mod_lt _ (by decide)⟩
set_option backward.proofsInPublic true in
/-- the distance back: `k` places after is `opp k` places before. -/
def opp (k : Fin 8) : Fin 8 := ⟨(8 - k.val) % 8, Nat.mod_lt _ (by decide)⟩

theorem bwd_fwd (c : Dev nD) (k : Fin 8) : bwd (fwd c k) k = c := by revert c k; decide
theorem fwd_bwd (c : Dev nD) (k : Fin 8) : fwd (bwd c k) k = c := by revert c k; decide
theorem fwd_fwd_opp (c : Dev nD) (k : Fin 8) : fwd (fwd c k) (opp k) = c := by revert c k; decide
theorem bwd_opp (c : Dev nD) (k : Fin 8) : bwd c (opp k) = fwd c k := by revert c k; decide
theorem fwd_zero (c : Dev nD) : fwd c 0 = c := by revert c; decide
theorem bwd_zero (c : Dev nD) : bwd c 0 = c := by revert c; decide
theorem opp_opp (k : Fin 8) : opp (opp k) = k := by revert k; decide
theorem opp_ne_zero {k : Fin 8} (h : k ≠ 0) : opp k ≠ 0 := by revert k; decide

/-- For a fixed device, the eight distances forward name the eight devices once each; -/
def fwdEquiv (c : Dev nD) : Fin 8 ≃ Dev nD where
  toFun := fwd c
  invFun d := ⟨(d.val + 8 - c.val) % 8, Nat.mod_lt _ (by decide)⟩
  left_inv k := by revert c k; decide
  right_inv d := by revert c d; decide
/-- so do the eight distances back; -/
def bwdEquiv (c : Dev nD) : Fin 8 ≃ Dev nD where
  toFun := bwd c
  invFun d := ⟨(c.val + 8 - d.val) % 8, Nat.mod_lt _ (by decide)⟩
  left_inv k := by revert c k; decide
  right_inv d := by revert c d; decide
/-- and for a fixed distance, moving every device that far is a bijection. -/
def shiftEquiv (k : Fin 8) : Dev nD ≃ Dev nD where
  toFun c := fwd c k
  invFun c := bwd c k
  left_inv c := bwd_fwd c k
  right_inv c := fwd_bwd c k
def oppEquiv : Fin 8 ≃ Fin 8 := ⟨opp, opp, opp_opp, opp_opp⟩

/-! ## The memrefs -/

abbrev xM : Memref sig .tc .vmem S1024x512 .bf16 := Memref.whole cc0_stg0_0
abbrev oM : Memref sig .tc .vmem S1024x512 .f32 := Memref.whole cc0_stg1_0
abbrev bM : Memref sig .tc .vmem S1024x512 .bf16 := Memref.whole cc0_scratch0
abbrev rM : Memref sig .tc .vmem S8x128x512 .bf16 := Memref.whole cc0_scratch1

theorem inb_blk (r : Fin 8) (h : Fin 2) : ∀ a, (![128 * r.val, 256 * h.val] : Fin 2 → ℕ) a + S128x256.size a ≤ S1024x512.size a := by
  revert r h; decide
theorem inb_half (h : Fin 2) : ∀ a, (![0, 256 * h.val] : Fin 2 → ℕ) a + S1024x256.size a ≤ S1024x512.size a := by
  revert h; decide
theorem inb_slot (k : Fin 8) (h : Fin 2) : ∀ a, (![k.val, 0, 256 * h.val] : Fin 3 → ℕ) a + S1x128x256.size a ≤ S8x128x512.size a := by
  revert k h; decide

/-- The rows of device `r` in column half `h`; -/
abbrev blk (r : Fin 8) (h : Fin 2) : Rect S1024x512 := Rect.unit (s := S1024x512) ![128 * r.val, 256 * h.val] S128x256.size (inb_blk r h)
/-- all rows of column half `h`; -/
abbrev half (h : Fin 2) : Rect S1024x512 := Rect.unit (s := S1024x512) ![0, 256 * h.val] S1024x256.size (inb_half h)
/-- slot `k`, column half `h`, of the receive buffer. -/
abbrev slot (k : Fin 8) (h : Fin 2) : Rect S8x128x512 := Rect.unit (s := S8x128x512) ![k.val, 0, 256 * h.val] S1x128x256.size (inb_slot k h)

abbrev blkM (r : Fin 8) (h : Fin 2) : Memref sig .tc .vmem S128x256 .bf16 := bM.slice (blk r h) (fun _ => rfl)
abbrev slotM (k : Fin 8) (h : Fin 2) : Memref sig .tc .vmem S128x256 .bf16 := (rM.slice (slot k h) (fun _ => rfl)).squeeze S128x256 squeezes_S1x128x256_S128x256

/-! ## The semaphores -/

/-- The runtime's barrier semaphore of collective id 0. -/
abbrev barS : Sem sig := (SemArray.scalar (sig.barrier 0 rfl) : Sems sig S_).sem

set_option backward.proofsInPublic true in
/-- The transfer semaphore of family `p` (0, 1: send and receive of the reduce-scatter; 2, 3: send and receive of the
    all-gather), distance `k`, column half `h`; -/
def dsem (p : Fin 4) (k : Fin 8) (h : Fin 2) : DmaSem sig := ⟨2 + 16 * p.val + 2 * k.val + h.val, by
  show 2 + 16 * p.val + 2 * k.val + h.val < 66
  have := p.isLt; have := k.isLt; have := h.isLt; omega⟩
set_option backward.proofsInPublic true in
/-- and the family, distance and half a transfer semaphore is of. -/
def dec (q : DmaSem sig) : Fin 4 × Fin 8 × Fin 2 :=
  (⟨(q.val - 2) / 16 % 4, Nat.mod_lt _ (by decide)⟩, ⟨(q.val - 2) / 2 % 8, Nat.mod_lt _ (by decide)⟩, ⟨(q.val - 2) % 2, Nat.mod_lt _ (by decide)⟩)

theorem dec_dsem (p : Fin 4) (k : Fin 8) (h : Fin 2) : dec (dsem p k h) = (p, k, h) := by revert p k h; decide

theorem sem_send1 (k : Fin 8) (h : Fin 2) (inb) : ((cc0_scratch2.slice (Rect.unit (s := S8x2) ![k.val, h.val] S1x1.size inb)).squeeze S_ squeezes_S1x1_S_).sem = dsem 0 k h := by
  revert k h; decide

theorem sem_recv1 (k : Fin 8) (h : Fin 2) (inb) : ((cc0_scratch3.slice (Rect.unit (s := S8x2) ![k.val, h.val] S1x1.size inb)).squeeze S_ squeezes_S1x1_S_).sem = dsem 1 k h := by
  revert k h; decide
theorem sem_send2 (k : Fin 8) (h : Fin 2) (inb) : ((cc0_scratch4.slice (Rect.unit (s := S8x2) ![k.val, h.val] S1x1.size inb)).squeeze S_ squeezes_S1x1_S_).sem = dsem 2 k h := by
  revert k h; decide
theorem sem_recv2 (k : Fin 8) (h : Fin 2) (inb) : ((cc0_scratch5.slice (Rect.unit (s := S8x2) ![k.val, h.val] S1x1.size inb)).squeeze S_ squeezes_S1x1_S_).sem = dsem 3 k h := by
  revert k h; decide

/-! ## The device chains and the computed offsets -/

/-- The distance the `n`-th remote action of the body is at: seven barrier signals, then four groups of seven
    transfers (each phase by column half), each group at distances 1 to 7 in order. -/
abbrev dist (n : ℕ) : Fin 8 := ⟨n % 7 + 1, by omega⟩

/-- The device the `n`-th remote action names. -/
def devs (c : Dev nD) : Fin 35 → Dev nD :=
  ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩,
    ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩,
    ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩,
    ⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩,
    ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩,
    ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩,
    ⟨k0_dev31 c, k0_dev31_lt c⟩, ⟨k0_dev32 c, k0_dev32_lt c⟩, ⟨k0_dev33 c, k0_dev33_lt c⟩, ⟨k0_dev34 c, k0_dev34_lt c⟩, ⟨k0_dev35 c, k0_dev35_lt c⟩]

theorem devs_eq : ∀ (c : Dev nD) (i : Fin 35), devs c i = fwd c (dist i.val) := by decide +kernel

/-- The block a first-phase transfer reads: its target's rows. -/
theorem off1_eq : ∀ (c : Dev nD) (r : Fin 7), k0_off1 c (BitVec.ofNat 32 (1 + r.val)) = ![128 * (fwd c r.succ).val, 256 * (0 : Fin 2).val] := by decide +kernel
theorem off2_eq : ∀ (c : Dev nD) (r : Fin 7), k0_off2 c (BitVec.ofNat 32 (1 + r.val)) = ![128 * (fwd c r.succ).val, 256 * (1 : Fin 2).val] := by decide +kernel

end Cert.KernelProof

end
-- ==== Proof.Protocol.lean ====
/-
The exchange as a schedule of rounds: who pays which semaphore, how much, and what each payment hands over.

With `fwd c k` the device `k` places after `c` (k = 1 … 7), `h` the column half:
* barrier of `t`: one unit from every other device; the one `fwd t j` pays hands `t` slot `j` of that device's receive
  buffer, where `t`'s transfers to it land;
* reduce-scatter, distance `k`: the receive cell (1, k, h) of `t` is paid by `bwd t k`'s copy of rows `t` of its operand
  into `t`'s slot `k`; the landing hands `t` the slot AND the rows it was read from, at whose place `t`'s own reduced
  block will land; the send cell (0, k, h) hands nothing back;
* all-gather, distance `k`: the receive cell (3, k, h) of `t` is paid by `bwd t k`'s copy of its reduced block into the
  same rows of `t`'s buffer; the send cell (2, k, h) of the sender hands back the share of the block the copy read.
-/
module

public import proofs.«01_k».proof.Proof.Cells
public import Idealize.ShloMosaic.Lib.Rounds
public import Idealize.ShloMosaic.Lib.Transfers
public import Idealize.ShloMosaic.Lib.Ring
public import Idealize.ShloMosaic.Lib.ValueLayout

@[expose] public section

noncomputable section

namespace Cert.KernelProof

open Cert.KernelIdeal Cert.KernelIdeal.Gen

open Idealize.ShloMosaic
open Idealize.ShloMosaic.TcCoe
open Idealize.SL Idealize.SL.RA Idealize.SL.BI
open Idealize.ShloMosaic.Rounds
open scoped Idealize.SL.BI
open Idealize.SL.BI.BIBase Idealize.SL.BI.Laws Idealize.SL.ProofMode Idealize.SL.Sem
open Idealize.ShloMosaic.ValueIdx
open Idealize.ShloMosaic.Transfers (shareTok shareDrop pointsTo_toks)

variable {F : FTy → Type} [FloatOps F]

abbrev UB : Type := URounds (GSem nD τ sig) (Fin 8)
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR
abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

abbrev barCell (c : Dev nD) : GSem nD τ sig := ((c : Thread nD τ), .reg barS)
abbrev dcell (c : Dev nD) (p : Fin 4) (k : Fin 8) (h : Fin 2) : GSem nD τ sig := ((c : Thread nD τ), .dma (dsem p k h))

/-- The credit one transfer's block is worth. -/
abbrev N : ℕ := (blkM 0 0).view.dmaCredit
theorem amt_slot (k : Fin 8) (h : Fin 2) (q : DmaSem sig) : (slotM k h).view.amount (.dma q) = N := rfl
theorem amt_blk (r : Fin 8) (h : Fin 2) (q : DmaSem sig) : (blkM r h).view.amount (.dma q) = N := rfl
theorem N_pos : 0 < N := View.dmaCredit_pos _ (by decide)

/-! ## The contents -/

/-- Device `c`'s operand as its staging buffer, and then its exchange buffer, hold it. -/
def X (c : Dev nD) : (cc0_scratch0 : Ref sig .tc).ty.Contents (Elt F) :=
  (win0_0.blk (0 : Fin 1)).view.read (Elt F) ((s₀ m ρ).mem ((c : Thread nD τ).loc main_arg0))

theorem row_lt (r : Fin 8) (i : Fin 128) : 128 * r.val + i.val < 1024 := by omega

/-- Device `c`'s receive buffer after the reduce-scatter: slot `k` holds rows `c` of the operand of the device `k`
    places before. -/
def RS (c : Dev nD) : (cc0_scratch1 : Ref sig .tc).ty.Contents (Elt F) := fun i =>
  X m ρ (bwd c (i 0)) (ix2 (⟨128 * c.val + (i 1).val, row_lt c (i 1)⟩ : Fin 1024) (i 2))

/-- What the body loads of slot `k`, half `h`; -/
def slotV (c : Dev nD) (k : Fin 8) (h : Fin 2) : Vec F S1x128x256 .bf16 := rM.view.readAt (Elt F) (slot k h).toLoadRect (RS m ρ c)
/-- of its own block of its operand; -/
def ownV (c : Dev nD) (h : Fin 2) : Vec F S128x256 .bf16 := bM.view.readAt (Elt F) (blk c h).toLoadRect (X m ρ c)
/-- one slot added to a running sum; -/
def addSlot (a : FVec F S128x256 .bf16) (v : Vec F S1x128x256 .bf16) : FVec F S128x256 .bf16 :=
  addf a (shapeCast S128x256 v shapeCasts_S1x128x256_S128x256 : FVec F S128x256 .bf16)
/-- and the reduced block it stores: its own block and the seven slots, added in order. -/
def redV (c : Dev nD) (h : Fin 2) : FVec F S128x256 .bf16 :=
  shapeCast S128x256 (addSlot (addSlot (addSlot (addSlot (addSlot (addSlot (addSlot (ownV m ρ c h) (slotV m ρ c 1 h)) (slotV m ρ c 2 h)) (slotV m ρ c 3 h))
    (slotV m ρ c 4 h)) (slotV m ρ c 5 h)) (slotV m ρ c 6 h)) (slotV m ρ c 7 h)) shapeCasts_S128x256_S128x256

theorem redV_congr {c c' : Dev nD} {h h' : Fin 2} {x x' : S128x256.Idx} (hc : c = c') (hh : h = h') (hx : x = x') :
    redV m ρ c h x = redV m ρ c' h' x' := by
  subst hc hh hx; rfl

/-- The exchange buffer after the all-gather, the same on every device: rows `r` hold device `r`'s reduced blocks. -/
def G : (cc0_scratch0 : Ref sig .tc).ty.Contents (Elt F) := fun i =>
  redV m ρ (⟨(i 0).val / 128, by have := idx2_lt0 i; show _ < 8; omega⟩ : Dev nD) ⟨(i 1).val / 256, by have := idx2_lt1 i; omega⟩
    (ix2 (⟨(i 0).val % 128, by omega⟩ : Fin 128) (⟨(i 1).val % 256, by omega⟩ : Fin 256))

/-- The kernel's result: that, widened. -/
def outG : (cc0_stg1_0 : Ref sig .tc).ty.Contents (Elt F) := extf .f32 (G m ρ : FVec F S1024x512 .bf16) bitsLt_bf16_f32

/-! ### Where the pieces lie -/

theorem blk_at (r : Fin 8) (h : Fin 2) (x : S128x256.Idx) :
    (blkM r h).view.emb x = (ix2 (⟨128 * r.val + (x 0).val, row_lt r (x 0)⟩ : Fin 1024) (⟨256 * h.val + (x 1).val, by have := idx2_lt1 x; omega⟩ : Fin 512) : S1024x512.Idx) := by
  funext a
  match a with
  | ⟨0, _⟩ => exact Fin.ext (by show 128 * r.val + 1 * (x 0).val = _; rw [Nat.one_mul])
  | ⟨1, _⟩ => exact Fin.ext (by show 256 * h.val + 1 * (x 1).val = _; rw [Nat.one_mul])

theorem slot_at (k : Fin 8) (h : Fin 2) (x : S128x256.Idx) :
    (slotM k h).view.emb x = (ix3 k (x 0) (⟨256 * h.val + (x 1).val, by have := idx2_lt1 x; omega⟩ : Fin 512) : S8x128x512.Idx) := by
  show (slot k h).emb (Shape.reshapeEquiv _ x) = _
  rw [eq_ix2 x]
  have e := reshapeEquiv_ix2_1ab (a := 128) (b := 256) (by decide) (x 0) (x 1)
  refine (congrArg (slot k h).emb e).trans ?_
  funext a
  match a with
  | ⟨0, _⟩ => exact Fin.ext (by show k.val + 1 * 0 = k.val; omega)
  | ⟨1, _⟩ => exact Fin.ext (by show 0 + 1 * (x 0).val = (x 0).val; omega)
  | ⟨2, _⟩ => exact Fin.ext (by show 256 * h.val + 1 * (x 1).val = 256 * h.val + (x 1).val; omega)

/-- A first-phase landing leaves the slot as `RS` has it. -/
theorem landed1 (c : Dev nD) (k : Fin 8) (h : Fin 2) (fd : (cc0_scratch1 : Ref sig .tc).ty.Contents (Elt F)) :
    ∀ i ∈ (slotM k h).view.set, (slotM k h).view.write (Elt F) fd ((blkM (fwd c k) h).view.read (Elt F) (X m ρ c)) Finset.univ i = RS m ρ (fwd c k) i := by
  intro i hi
  obtain ⟨x, -, rfl⟩ := Finset.mem_map.mp hi
  rw [View.write_emb_of_mem _ _ (Finset.mem_univ _), View.read_apply, slot_at, blk_at]
  show X m ρ c _ = X m ρ (bwd (fwd c k) k) _
  rw [bwd_fwd]
  rfl

/-- Copying a view's own contents onto it leaves them. -/
theorem landed2 (r : Fin 8) (h : Fin 2) (fd f : (cc0_scratch0 : Ref sig .tc).ty.Contents (Elt F)) :
    ∀ i ∈ (blkM r h).view.set, (blkM r h).view.write (Elt F) fd ((blkM r h).view.read (Elt F) f) Finset.univ i = f i := by
  intro i hi
  obtain ⟨x, -, rfl⟩ := Finset.mem_map.mp hi
  rw [View.write_emb_of_mem _ _ (Finset.mem_univ _), View.read_apply]
  rfl

/-- Storing a reduced block leaves its rows as `G` has them. -/
theorem stored2 (c : Dev nD) (h : Fin 2) (f : (cc0_scratch0 : Ref sig .tc).ty.Contents (Elt F)) :
    ∀ i ∈ (blkM c h).view.set, (bM.access (blk c h)).write (Elt F) f (redV m ρ c h) Finset.univ i = G m ρ i := by
  intro i hi
  obtain ⟨x, -, rfl⟩ := Finset.mem_map.mp hi
  refine (View.write_emb_of_mem (v := bM.access (blk c h)) _ _ (Finset.mem_univ x)).trans ?_
  rw [blk_at]
  show redV m ρ c h x = redV m ρ _ _ _
  have h0 := idx2_lt0 x
  have h1 := idx2_lt1 x
  exact redV_congr m ρ (Fin.ext (by show c.val = (128 * c.val + (x 0).val) / 128; omega))
    (Fin.ext (by show h.val = (256 * h.val + (x 1).val) / 256; omega))
    (Shape.idx_ext₂ (by show (x 0).val = (128 * c.val + (x 0).val) % 128; omega) (by show (x 1).val = (256 * h.val + (x 1).val) % 256; omega))

/-- The half of the operand the body stores into the exchange buffer leaves it as `X` has it. -/
theorem stored1 (c : Dev nD) (h : Fin 2) (f : (cc0_scratch0 : Ref sig .tc).ty.Contents (Elt F)) (v : FVec F S1024x256 .bf16)
    (hv : v = xM.view.readAt (Elt F) (half h).toLoadRect (X m ρ c)) :
    ∀ i ∈ (half h).set, (bM.access (half h)).write (Elt F) f v Finset.univ i = X m ρ c i := by
  subst hv
  intro i hi
  obtain ⟨x, -, rfl⟩ := Finset.mem_map.mp ((View.set_slice_whole cc0_scratch0 (half h)).symm ▸ hi : i ∈ ((View.whole cc0_scratch0).slice (half h)).set)
  refine (View.write_emb_of_mem (v := bM.access (half h)) _ _ (Finset.mem_univ x)).trans ?_
  rfl

/-- The widened half the body stores into its result leaves it as `outG` has it. -/
theorem stored3 (h : Fin 2) (f : (cc0_stg1_0 : Ref sig .tc).ty.Contents (Elt F)) :
    ∀ i ∈ (half h).set, (oM.access (half h)).write (Elt F) f
      (extf .f32 (bM.view.readAt (Elt F) (half h).toLoadRect (G m ρ) : FVec F S1024x256 .bf16) bitsLt_bf16_f32) Finset.univ i = outG m ρ i := by
  intro i hi
  obtain ⟨x, -, rfl⟩ := Finset.mem_map.mp ((View.set_slice_whole cc0_stg1_0 (half h)).symm ▸ hi : i ∈ ((View.whole cc0_stg1_0).slice (half h)).set)
  refine (View.write_emb_of_mem (v := oM.access (half h)) _ _ (Finset.mem_univ x)).trans ?_
  rfl

/-! ## The pieces of the buffers -/

/-- Rows `r`, half `h`, of device `c`'s exchange buffer at share `q`; -/
def xbPts (c : Dev nD) (r : Fin 8) (h : Fin 2) (q : PosShare TreeShare) (f : (cc0_scratch0 : Ref sig .tc).ty.Contents (Elt F)) : sProp 𝕄 :=
  (blkM r h).view.loc (c : Thread nD τ) ↦[(blkM r h).view.set]{q} f
/-- slot `k`, half `h`, of its receive buffer. -/
def rsPts (c : Dev nD) (k : Fin 8) (h : Fin 2) (f : (cc0_scratch1 : Ref sig .tc).ty.Contents (Elt F)) : sProp 𝕄 :=
  (slotM k h).view.loc (c : Thread nD τ) ↦[(slotM k h).view.set]{fullShare} f

instance xbPts_storable (c r h q f) : BI.Storable (upEmb : UEmb _ 𝕄) (xbPts (F := F) c r h q f) := by unfold xbPts; infer_instance
instance rsPts_storable (c k h f) : BI.Storable (upEmb : UEmb _ 𝕄) (rsPts (F := F) c k h f) := by unfold rsPts; infer_instance

/-- The share of its own reduced block a device lends to its transfer at distance `k`; -/
abbrev lend (k : Fin 8) : PosShare TreeShare := shareTok fullShare 8 k
/-- what it keeps of it meanwhile. -/
abbrev keep : PosShare TreeShare := shareDrop fullShare 8

/-! ## The payloads -/

def barPay (t : Dev nD) (j : Fin 8) : sProp 𝕄 := iprop((∃ f, rsPts (F := F) (fwd t j) j 0 f) ∗ ∃ f, rsPts (F := F) (fwd t j) j 1 f)
def recv1Pay (t : Dev nD) (k : Fin 8) (h : Fin 2) : sProp 𝕄 := iprop(rsPts t k h (RS m ρ t) ∗ xbPts (bwd t k) t h fullShare (X m ρ (bwd t k)))
def send2Pay (t : Dev nD) (k : Fin 8) (h : Fin 2) : sProp 𝕄 := xbPts t t h (lend k) (G m ρ)
def recv2Pay (t : Dev nD) (k : Fin 8) (h : Fin 2) : sProp 𝕄 := xbPts t (bwd t k) h fullShare (G m ρ)

/-- What a transfer's completion on cell (p, k, h) of `t` hands over. -/
def dmaPay (t : Dev nD) : Fin 4 → Fin 8 → Fin 2 → sProp 𝕄
  | 0, _, _ => iprop(emp)
  | 1, k, h => recv1Pay m ρ t k h
  | 2, k, h => send2Pay m ρ t k h
  | 3, k, h => recv2Pay m ρ t k h

instance barPay_storable (t j) : BI.Storable (upEmb : UEmb _ 𝕄) (barPay (F := F) t j) := by unfold barPay; infer_instance
instance dmaPay_storable (t p k h) : BI.Storable (upEmb : UEmb _ 𝕄) (dmaPay (F := F) m ρ t p k h) := by
  unfold dmaPay recv1Pay send2Pay recv2Pay
  split <;> infer_instance

/-! ## The schedule -/

/-- The duties of a location's one round. -/
def dutiesAt : SemLoc sig → Finset (Fin 8)
  | .reg s => if s = barS then Finset.univ.erase 0 else ∅
  | .dma q => if (dec q).2.1 ≠ 0 then {0} else ∅
def amountAt : SemLoc sig → ℕ
  | .reg _ => 1
  | .dma _ => N
def payAt (t : Dev nD) : SemLoc sig → Fin 8 → sProp 𝕄
  | .reg _, j => barPay t j
  | .dma q, _ => dmaPay m ρ t (dec q).1 (dec q).2.1 (dec q).2.2

/-- One round, round 0: a barrier cell has one duty of one unit per other device; a transfer cell at a distance other
    than 0 the duty 0 of the block's credit. -/
def ringRd : Rounds.Schedule (GSem nD τ sig) (Fin 8) 𝕄 where
  duties g r := if r = 0 ∧ g.1.2 = .tc then dutiesAt g.2 else ∅
  unitless _ := False
  amount g _ _ := amountAt g.2
  payload g _ d := payAt m ρ g.1.1 g.2 d
  amount_pos g _ _ _ := by
    cases g.2 with
    | reg s => exact Nat.one_pos
    | dma q => exact N_pos

instance ringRd_payload_storable (g : GSem nD τ sig) (r : ℕ) (d : Fin 8) :
    BI.Storable (upEmb : UEmb _ 𝕄) ((ringRd (F := F) m ρ).payload g r d) := by
  show BI.Storable upEmb (payAt m ρ g.1.1 g.2 d)
  cases g.2 with
  | reg s => exact barPay_storable _ _
  | dma q => exact dmaPay_storable _ _ _ _ _ _

section Sched
variable (c : Dev nD) (p : Fin 4) (k : Fin 8) (h : Fin 2)

theorem duties_tc (sm : SemLoc sig) : (ringRd (F := F) m ρ).duties ((c : Thread nD τ), sm) 0 = dutiesAt sm := by
  dsimp only [ringRd]; exact if_pos ⟨rfl, rfl⟩
theorem duties_bar : (ringRd (F := F) m ρ).duties (barCell c) 0 = Finset.univ.erase 0 := (duties_tc m ρ c _).trans (by dsimp only [dutiesAt]; exact if_pos rfl)
theorem duties_dma (hk : k ≠ 0) : (ringRd (F := F) m ρ).duties (dcell c p k h) 0 = {0} :=
  (duties_tc m ρ c _).trans (by dsimp only [dutiesAt]; rw [dec_dsem]; exact if_pos hk)
theorem duties_zero : (ringRd (F := F) m ρ).duties (dcell c p 0 h) 0 = ∅ :=
  (duties_tc m ρ c _).trans (by dsimp only [dutiesAt]; rw [dec_dsem]; exact if_neg (fun h => h rfl))
theorem duties_later (g : GSem nD τ sig) : ∀ r, 1 ≤ r → (ringRd (F := F) m ρ).duties g r = ∅ :=
  fun r hr => by dsimp only [ringRd]; rw [if_neg fun h => by omega]

theorem amount_dma (d : Fin 8) : (ringRd (F := F) m ρ).amount (dcell c p k h) 0 d = N := by dsimp only [ringRd, amountAt]

theorem expect_bar : (ringRd (F := F) m ρ).expect (barCell c) 0 = 7 := by
  unfold Schedule.expect Schedule.amountOf
  rw [duties_bar]; rfl
theorem expect_dma (hk : k ≠ 0) : (ringRd (F := F) m ρ).expect (dcell c p k h) 0 = N := by
  unfold Schedule.expect Schedule.amountOf
  rw [duties_dma m ρ c p k h hk, Finset.sum_singleton]; rfl

theorem payload_bar (d : Fin 8) : (ringRd (F := F) m ρ).payload (barCell c) 0 d = barPay c d := rfl
theorem payload_dma (d : Fin 8) : (ringRd (F := F) m ρ).payload (dcell c p k h) 0 d = dmaPay m ρ c p k h := by
  show dmaPay m ρ c (dec (dsem p k h)).1 (dec (dsem p k h)).2.1 (dec (dsem p k h)).2.2 = _
  rw [dec_dsem]

/-- What the barrier wait brings: every other device's slot. -/
theorem rest_bar : bigSep ((ringRd (F := F) m ρ).duties (barCell c) 0 \ ∅) (fun d => (ringRd (F := F) m ρ).payload (barCell c) 0 d)
    = bigSep (Finset.univ.erase 0) (barPay (F := F) c) := by
  rw [Finset.sdiff_empty, duties_bar]; rfl
theorem rest_dma (hk : k ≠ 0) : bigSep ((ringRd (F := F) m ρ).duties (dcell c p k h) 0 \ ∅) (fun d => (ringRd (F := F) m ρ).payload (dcell c p k h) 0 d)
    = dmaPay m ρ c p k h := by
  rw [Finset.sdiff_empty, duties_dma m ρ c p k h hk, bigSep_singleton, payload_dma]

end Sched

/-! ## What a device owes, in the order it pays; the levels -/

/-- The cell the `n`-th remote action of device `c` pays; -/
def owedCell (c : Dev nD) (n : ℕ) : GSem nD τ sig :=
  if n < 7 then barCell (fwd c (dist n)) else if n < 14 then dcell (fwd c (dist n)) 1 (dist n) 0 else if n < 21 then dcell (fwd c (dist n)) 1 (dist n) 1
  else if n < 28 then dcell (fwd c (dist n)) 3 (dist n) 0 else dcell (fwd c (dist n)) 3 (dist n) 1
/-- how much; -/
def owedAmt (n : ℕ) : ℕ := if n < 7 then 1 else N
/-- and what it still owes before that action. -/
def owed (c : Dev nD) (n : ℕ) : CellTallies nD τ sig Unit := ∑ i ∈ Finset.Ico n 35, tallyAt (owedCell c i) () (owedAmt i)

theorem owed_step (c : Dev nD) {n : ℕ} (h : n < 35) : owed c n = owed c (n + 1) + tallyAt (owedCell c n) () (owedAmt n) := by
  unfold owed; rw [Finset.sum_eq_sum_Ico_succ_bot h, add_comm]
theorem owed_end (c : Dev nD) : owed c 35 = 0 := by unfold owed; rw [Finset.Ico_self, Finset.sum_empty]

def L (g : GSem nD τ sig) : Finset Unit := if g.1.2 = .tc then {()} else ∅
/-- Barrier cells at 1, the reduce-scatter's receive cells at 2, the all-gather's at 3, everything else at 0. -/
def lvl : SemLoc sig → ℕ
  | .reg _ => 1
  | .dma q => if (dec q).1 = 1 then 2 else if (dec q).1 = 3 then 3 else 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl

/-- The level of the cell the `n`-th remote action pays. -/
def owedLvl (n : ℕ) : ℕ := if n < 7 then 1 else if n < 21 then 2 else 3

theorem owedCell_lvl (c : Dev nD) (n : ℕ) : lvl (owedCell c n).2 = owedLvl n := by
  unfold owedCell owedLvl
  have e1 : ∀ k h, lvl (.dma (dsem 1 k h)) = 2 := fun k h => by unfold lvl; simp only [dec_dsem]; rfl
  have e3 : ∀ k h, lvl (.dma (dsem 3 k h)) = 3 := fun k h => by unfold lvl; simp only [dec_dsem]; rfl
  by_cases h1 : n < 7
  · rw [if_pos h1, if_pos h1]; rfl
  rw [if_neg h1, if_neg h1]
  by_cases h2 : n < 14
  · rw [if_pos h2, if_pos (by omega)]; exact e1 _ _
  rw [if_neg h2]
  by_cases h3 : n < 21
  · rw [if_pos h3, if_pos h3]; exact e1 _ _
  rw [if_neg h3, if_neg h3]
  by_cases h4 : n < 28
  · rw [if_pos h4]; exact e3 _ _
  · rw [if_neg h4]; exact e3 _ _
theorem owedCell_tc (c : Dev nD) (n : ℕ) : L (owedCell c n) = {()} := by
  unfold owedCell; (repeat' split) <;> rfl

theorem owed_pos {c : Dev nD} {n : ℕ} {g : GSem nD τ sig} {u : Unit} (h : 0 < owed c n g u) : ∃ i, n ≤ i ∧ g = owedCell c i := by
  have key : ∀ S : Finset ℕ, 0 < (∑ i ∈ S, tallyAt (owedCell c i) () (owedAmt i) : CellTallies nD τ sig Unit) g u → ∃ i ∈ S, g = owedCell c i := by
    intro S
    induction S using Finset.induction_on with
    | empty => intro h; rw [Finset.sum_empty] at h; exact absurd h (Nat.lt_irrefl 0)
    | insert i S hi ih =>
      intro h
      rw [Finset.sum_insert hi, Pi.add_apply, Finsupp.add_apply, tallyAt_apply] at h
      by_cases hg : g = owedCell c i ∧ u = ()
      · exact ⟨i, Finset.mem_insert_self _ _, hg.1⟩
      · rw [if_neg hg, Nat.zero_add] at h
        obtain ⟨j, hj, e⟩ := ih h
        exact ⟨j, Finset.mem_insert_of_mem hj, e⟩
  obtain ⟨i, hi, e⟩ := key _ h
  exact ⟨i, (Finset.mem_Ico.mp hi).1, e⟩

/-- A device may wait on a cell of a level below that of everything it still owes. -/
theorem mayWait_owed (c : Dev nD) (sm : SemLoc sig) (n : ℕ) (hl : lvl sm < owedLvl n) :
    (levAts L lv : sProp 𝕄) ⊢ MayWait (c : Thread nD τ) sm () (owed c n) :=
  MayOwe.of_cut (L := L) (lev := lv) (lvl sm) (fun p hp => by rw [Finset.mem_singleton.mp hp, L_tc]; exact Finset.mem_singleton_self _)
    (fun g u hg => by obtain ⟨i, -, rfl⟩ := owed_pos hg; rw [owedCell_tc]; exact Finset.mem_singleton_self _)
    (fun p hp => by rw [Finset.mem_singleton.mp hp]; exact le_refl _)
    (fun g u hg => by
      obtain ⟨i, hi, rfl⟩ := owed_pos hg
      show lvl sm < lvl (owedCell c i).2
      rw [owedCell_lvl]
      refine lt_of_lt_of_le hl ?_
      unfold owedLvl; (repeat' split) <;> omega)
theorem mayWait_end (c : Dev nD) (sm : SemLoc sig) : (levAts L lv : sProp 𝕄) ⊢ MayWait (c : Thread nD τ) sm () (owed c 35) := by
  rw [owed_end, MayWait_zero]; iintro -; iempintro

end Cert.KernelProof

end
-- ==== Proof.Steps.lean ====
/-
The rule of each kind of step of the body, once, at a symbolic device, distance and column half: a barrier signal, the
barrier wait, a transfer of either phase, a wait on a transfer cell, a load of a received slot. A rule takes and gives
back one assertion, the state of the phase the step belongs to, in which a run of distances has been served and the
rest are still to come.
-/
module

public import proofs.«01_k».proof.Proof.Protocol

@[expose] public section

noncomputable section

namespace Cert.KernelProof

open Cert.KernelIdeal Cert.KernelIdeal.Gen

open Idealize.ShloMosaic
open Idealize.ShloMosaic.TcCoe
open Idealize.SL Idealize.SL.RA Idealize.SL.BI
open Idealize.ShloMosaic.Rounds
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-! ## Runs of distances -/

/-- A family over the distances from `a` up to, not including, `b`. -/
def seg (a b : ℕ) (Φ : Fin 8 → sProp 𝕄) : sProp 𝕄 := bigSep (Finset.univ.filter fun k : Fin 8 => a ≤ k.val ∧ k.val < b) Φ

theorem seg_head {a b : ℕ} (hb : a < b) (h8 : a < 8) (Φ : Fin 8 → sProp 𝕄) : seg a b Φ = iprop(Φ ⟨a, h8⟩ ∗ seg (a + 1) b Φ) := by
  unfold seg
  rw [show (Finset.univ.filter fun k : Fin 8 => a ≤ k.val ∧ k.val < b) = insert ⟨a, h8⟩ (Finset.univ.filter fun k : Fin 8 => a + 1 ≤ k.val ∧ k.val < b) by
    ext k
    simp only [Finset.mem_filter, Finset.mem_univ, true_and, Finset.mem_insert, Fin.ext_iff]
    omega]
  exact bigSep_insert (by simp only [Finset.mem_filter, Finset.mem_univ, true_and]; omega)
theorem seg_last {a b : ℕ} (hb : a ≤ b) (h8 : b < 8) (Φ : Fin 8 → sProp 𝕄) : seg a (b + 1) Φ = iprop(Φ ⟨b, h8⟩ ∗ seg a b Φ) := by
  unfold seg
  rw [show (Finset.univ.filter fun k : Fin 8 => a ≤ k.val ∧ k.val < b + 1) = insert ⟨b, h8⟩ (Finset.univ.filter fun k : Fin 8 => a ≤ k.val ∧ k.val < b) by
    ext k
    simp only [Finset.mem_filter, Finset.mem_univ, true_and, Finset.mem_insert, Fin.ext_iff]
    omega]
  exact bigSep_insert (by simp only [Finset.mem_filter, Finset.mem_univ, true_and]; omega)
theorem seg_nil (a : ℕ) (Φ : Fin 8 → sProp 𝕄) : seg a a Φ = iprop(emp) := by
  unfold seg
  rw [show (Finset.univ.filter fun k : Fin 8 => a ≤ k.val ∧ k.val < a) = ∅ by
    ext k; simp only [Finset.mem_filter, Finset.mem_univ, true_and, Finset.notMem_empty, iff_false]; omega]
  rfl
theorem seg_erase (Φ : Fin 8 → sProp 𝕄) : bigSep (Finset.univ.erase 0) Φ = seg 1 8 Φ := by
  unfold seg; congr 1
theorem seg_univ (Φ : Fin 8 → sProp 𝕄) : bigSep Finset.univ Φ = iprop(Φ 0 ∗ seg 1 8 Φ) := by
  rw [← seg_erase]; exact bigSep_univ_split 0
theorem seg_sep (a b : ℕ) (Φ Ψ : Fin 8 → sProp 𝕄) : seg a b (fun k => iprop(Φ k ∗ Ψ k)) = iprop(seg a b Φ ∗ seg a b Ψ) := bigSep_sep _ _ _
theorem seg_mono (a b : ℕ) {Φ Ψ : Fin 8 → sProp 𝕄} (h : ∀ k : Fin 8, a ≤ k.val → Φ k ⊢ Ψ k) : seg a b Φ ⊢ seg a b Ψ :=
  bigSep_mono fun k hk => h k (Finset.mem_filter.mp hk).2.1
/-- Distances forward and distances back run over the same seven. -/
theorem seg_opp (Φ : Fin 8 → sProp 𝕄) : seg 1 8 (fun k => Φ (opp k)) = seg 1 8 Φ := by
  unfold seg
  conv_rhs => rw [show (Finset.univ.filter fun k : Fin 8 => 1 ≤ k.val ∧ k.val < 8)
    = (Finset.univ.filter fun k : Fin 8 => 1 ≤ k.val ∧ k.val < 8).map oppEquiv.toEmbedding by decide, bigSep_map]
  rfl

/-! ## What every step may use -/

/-- The cells of one device: its barrier, and its transfer cells by family, distance and half. -/
abbrev Kix : Type := Option (Fin 4 × Fin 8 × Fin 2)
abbrev csem : Kix → SemLoc sig
  | none => .reg barS
  | some (p, k, h) => .dma (dsem p k h)
abbrev kcell (ck : Dev nD × Kix) : GSem nD τ sig := ((ck.1 : Thread nD τ), csem ck.2)

variable (K : Dev nD × Kix → ℕ)

/-- Every cell's invariant, that every cell has reached round 0, the level facts. -/
def env : sProp 𝕄 :=
  iprop((bigSep Finset.univ fun ck : Dev nD × Kix => cellInv ER (ringRd m ρ) (K ck) (kcell ck))
    ∗ (bigSep Finset.univ fun ck : Dev nD × Kix => reached ER (kcell ck) 0) ∗ levAts L lv)

instance env_persistent : BI.Persistent (env m ρ K) := by unfold env; infer_instance

theorem of_all {I : Type} [Fintype I] [DecidableEq I] (Φ : I → sProp 𝕄) (i : I) : bigSep Finset.univ Φ ⊢ Φ i := bigSep_elim (Finset.mem_univ i)

theorem env_inv (ck : Dev nD × Kix) : env m ρ K ⊢ cellInv ER (ringRd m ρ) (K ck) (kcell ck) := by
  unfold env; iintro ⟨H, -⟩
  iapply (of_all (fun ck : Dev nD × Kix => (cellInv ER (ringRd m ρ) (K ck) (kcell ck) : sProp 𝕄)) ck) $$ H
theorem env_reached (ck : Dev nD × Kix) : env m ρ K ⊢ reached ER (kcell ck) 0 := by
  unfold env; iintro ⟨-, H, -⟩
  iapply (of_all (fun ck : Dev nD × Kix => (reached ER (kcell ck) 0 : sProp 𝕄)) ck) $$ H
theorem env_lev : env m ρ K ⊢ levAts L lv := by
  unfold env; iintro ⟨-, -, H⟩; iexact H

/-- That, with the core's account after its first `o` remote actions. -/
def run (c : Dev nD) (o : ℕ) : sProp 𝕄 := iprop(env m ρ K ∗ ∃ W, owes (c : Thread nD τ) (owed c o) W)

variable (c : Dev nD)

/-! ## The barrier -/

/-- What the signal to the device `k` after takes: the slots that device's transfers will land in, and its duty. -/
def barLane (k : Fin 8) : sProp 𝕄 :=
  iprop(((∃ f, rsPts (F := F) c (opp k) 0 f) ∗ ∃ f, rsPts (F := F) c (opp k) 1 f) ∗ dutyTok ER (barCell (fwd c k)) 0 (opp k))

/-- `n` of the seven signals sent. -/
def signals (n : ℕ) : sProp 𝕄 := iprop(run m ρ K c n ∗ seg (n + 1) 8 (barLane (F := F) c))

theorem wp_sig (n : ℕ) (hn : n < 7) {d : Dev nD} (hd : d = fwd c ⟨n + 1, by omega⟩) {α : Type} {Q : α → sProp 𝕄} {k : PUnit → Prog (TpuEff nD τ sig (Elt F) Λ₀ .tc) α} :
    signals m ρ K c n
      ⊢ iprop((signals m ρ K c (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc d : Thread nD τ) barS 1) k) Q) := by
  subst hd
  unfold signals run
  rw [seg_head (show n + 1 < 8 by omega) (by omega)]
  have hk : (⟨n + 1, by omega⟩ : Fin 8) ≠ 0 := fun h => by have := congrArg Fin.val h; simp at this
  generalize hkk : (⟨n + 1, by omega⟩ : Fin 8) = kk at *
  have hcell : owedCell c n = barCell (fwd c kk) := by
    unfold owedCell; rw [if_pos hn, show dist n = kk from hkk ▸ Fin.ext (by show n % 7 + 1 = n + 1; omega)]
  have hO : owed c n = owed c (n + 1) + tallyAt (barCell (fwd c kk)) () 1 := by
    rw [owed_step c (show n < 35 by omega), hcell, show owedAmt n = 1 from if_pos hn]
  unfold barLane
  iintro ⟨⟨#HE, ⟨%W, HO⟩⟩, ⟨Hs, Ht⟩, Hrest⟩ Hk
  iapply (Rounds.wp_signal 𝒱₀ ER (ringRd m ρ) (c : Thread nD τ) none (dst := (fwd c kk : Thread nD τ)) (κ := K (fwd c kk, none))
      (d := opp kk) (by rw [duties_bar]; exact Finset.mem_erase.mpr ⟨opp_ne_zero hk, Finset.mem_univ _⟩) (k' := 1) rfl () (owed c (n + 1)) hO) $$ [HO Ht Hs]
  · isplitr; · iapply (env_inv m ρ K (fwd c kk, none)); iexact HE
    isplitl [HO]; · iexact HO
    isplitl [Ht]; · iexact Ht
    isplitl [Hs]
    · rw [payload_bar]; unfold barPay; rw [fwd_fwd_opp]; iexact Hs
    iapply (env_reached m ρ K (fwd c kk, none)); iexact HE
  iintro HO
  iapply Hk
  isplitl [HO]
  · isplitr; · iexact HE
    iexists W; iexact HO
  iexact Hrest

/-- The barrier wait: every other device's slots. -/
theorem wp_bar {α : Type} {Q : α → sProp 𝕄} {k : PUnit → Prog (TpuEff nD τ sig (Elt F) Λ₀ .tc) α} :
    iprop(run m ρ K c 7 ∗ cred (tallyAt (barCell c) () 7) ∗ atPos ER (barCell c) 0 ∅ 0)
      ⊢ iprop(((run m ρ K c 7 ∗ atPos ER (barCell c) 1 ∅ 0 ∗ seg 1 8 (barPay (F := F) c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 7) k) Q) := by
  unfold run
  iintro ⟨⟨#HE, ⟨%W, HO⟩⟩, Hc, Ha⟩ Hk
  iapply (Rounds.wp_wait_rest_token 𝒱₀ ER (ringRd m ρ) (c : Thread nD τ) none (κ := K (c, none))
      (wpE_semWait_eq 𝒱₀ (c : Thread nD τ) none Set.univ) (Set.mem_univ _) () (O := owed c 7) (W := W) (R := 0) (m := 0) (T := ∅)
      (by rw [expect_bar])) $$ [Hc HO Ha]
  · isplitr; · iapply (env_inv m ρ K (c, none)); iexact HE
    isplitl [Hc]; · iexact Hc
    isplitl [HO]; · iexact HO
    isplitr
    · iapply (mayWait_owed c (.reg barS) 7 (by decide)); iapply (env_lev m ρ K); iexact HE
    iexact Ha
  iintro ⟨HO, Ha, -, Hp⟩
  ihave Hp := (Entails.of_eq ((rest_bar m ρ c).trans (seg_erase _))) $$ Hp
  iapply Hk
  isplitl [HO]
  · isplitr; · iexact HE
    iexists _; iexact HO
  isplitl [Ha]; · iexact Ha
  iexact Hp

/-! ## The transfers -/

/-- What the first-phase transfer to the device `k` after takes: that device's rows of the operand, the slot it lands
    in, and its two duties. -/
def lane1 (h : Fin 2) (k : Fin 8) : sProp 𝕄 :=
  iprop(xbPts c (fwd c k) h fullShare (X m ρ c) ∗ (∃ f, rsPts (F := F) (fwd c k) k h f)
    ∗ dutyTok ER (dcell c 0 k h) 0 0 ∗ dutyTok ER (dcell (fwd c k) 1 k h) 0 0)
/-- What the second-phase transfer to it takes: a share of the reduced block, the same rows over there, its two duties. -/
def lane2 (h : Fin 2) (k : Fin 8) : sProp 𝕄 :=
  iprop(xbPts c c h (lend k) (G m ρ) ∗ xbPts (fwd c k) c h fullShare (X m ρ (fwd c k))
    ∗ dutyTok ER (dcell c 2 k h) 0 0 ∗ dutyTok ER (dcell (fwd c k) 3 k h) 0 0)
/-- What a started transfer leaves: the credit to wait for its completion with. -/
def sent (p : Fin 4) (h : Fin 2) (k : Fin 8) : sProp 𝕄 := cred (tallyAt (dcell c p k h) () N)

/-- `n` of a group's seven transfers started, `o` remote actions done in all. -/
def sends1 (h : Fin 2) (n o : ℕ) : sProp 𝕄 := iprop(run m ρ K c o ∗ seg (n + 1) 8 (lane1 m ρ c h) ∗ seg 1 (n + 1) (sent (F := F) c 0 h))
def sends2 (h : Fin 2) (n o : ℕ) : sProp 𝕄 := iprop(run m ρ K c o ∗ seg (n + 1) 8 (lane2 m ρ c h) ∗ seg 1 (n + 1) (sent (F := F) c 2 h))

theorem dist_eq {n o : ℕ} (hn : n < 7) (ho : o % 7 = n) : dist o = ⟨n + 1, by omega⟩ := Fin.ext (by show o % 7 + 1 = n + 1; omega)

theorem owed1 {n o : ℕ} {h : Fin 2} (hn : n < 7) (ho : o = 7 + 7 * h.val + n) {k : Fin 8} (hk : (⟨n + 1, by omega⟩ : Fin 8) = k) :
    owed c o = owed c (o + 1) + tallyAt (dcell (fwd c k) 1 k h) () N := by
  have hh := h.isLt
  rw [owed_step c (show o < 35 by omega)]
  congr 2
  · unfold owedCell
    rw [dist_eq hn (show o % 7 = n by omega), hk]
    rcases (show h.val = 0 ∨ h.val = 1 by omega) with h0 | h0
    · rw [if_neg (by omega), if_pos (by omega), show h = 0 from Fin.ext h0]
    · rw [if_neg (by omega), if_neg (by omega), if_pos (by omega), show h = 1 from Fin.ext h0]
  · exact if_neg (by omega)
theorem owed2 {n o : ℕ} {h : Fin 2} (hn : n < 7) (ho : o = 21 + 7 * h.val + n) {k : Fin 8} (hk : (⟨n + 1, by omega⟩ : Fin 8) = k) :
    owed c o = owed c (o + 1) + tallyAt (dcell (fwd c k) 3 k h) () N := by
  have hh := h.isLt
  rw [owed_step c (show o < 35 by omega)]
  congr 2
  · unfold owedCell
    rw [dist_eq hn (show o % 7 = n by omega), hk]
    rcases (show h.val = 0 ∨ h.val = 1 by omega) with h0 | h0
    · rw [if_neg (by omega), if_neg (by omega), if_neg (by omega), if_pos (by omega), show h = 0 from Fin.ext h0]
    · rw [if_neg (by omega), if_neg (by omega), if_neg (by omega), if_neg (by omega), show h = 1 from Fin.ext h0]
  · exact if_neg (by omega)

theorem succ_ne_zero {n : ℕ} (hn : n < 7) : (⟨n + 1, by omega⟩ : Fin 8) ≠ 0 := fun h => by have := congrArg Fin.val h; simp at this

/-- A first-phase transfer: the source rows go along with the landing. -/
theorem wp_send1 (h : Fin 2) (n o : ℕ) (hn : n < 7) (ho : o = 7 + 7 * h.val + n) {d : Dev nD} (hd : d = fwd c ⟨n + 1, by omega⟩)
    {src dst : Memref sig .tc .vmem S128x256 .bf16} (hs : src = blkM (fwd c ⟨n + 1, by omega⟩) h) (ht : dst = slotM ⟨n + 1, by omega⟩ h)
    {sS sR : DmaSem sig} (hS : sS = dsem 0 ⟨n + 1, by omega⟩ h) (hR : sR = dsem 1 ⟨n + 1, by omega⟩ h)
    {hsc : (dst : Memref sig (Dev.tc d : Thread nD τ).2.kind .vmem S128x256 .bf16).view.ref.isScScratch = false}
    {hsrc : src.view.WordExact} {hdst : dst.view.WordExact}
    {hsem : DmaTarget.Typed .vmem (.dma sR) (.remote (Dev.tc d : Thread nD τ) (dst : Memref sig (Dev.tc d : Thread nD τ).2.kind .vmem S128x256 .bf16) (.dma sS) hsc)}
    {α : Type} {Q : α → sProp 𝕄} {k : PUnit → Prog (TpuEff nD τ sig (Elt F) Λ₀ .tc) α} :
    sends1 m ρ K c h n o
      ⊢ iprop((sends1 m ρ K c h (n + 1) (o + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma sS) hsc) (.dma sR) hsrc hdst hsem) k) Q) := by
  have hk := succ_ne_zero hn
  have hO := owed1 c hn ho rfl
  unfold sends1 run
  rw [seg_head (show n + 1 < 8 by omega) (by omega), seg_last (show 1 ≤ n + 1 by omega) (by omega)]
  generalize hkk : (⟨n + 1, by omega⟩ : Fin 8) = kk at *
  subst hd hs ht hS hR
  unfold lane1
  iintro ⟨⟨#HE, ⟨%W, HO⟩⟩, ⟨⟨Hx, ⟨%fd, Hr⟩, Ht, Ht'⟩, Hrest⟩, Hdone⟩ Hk
  unfold xbPts rsPts
  iapply (Rounds.wp_send_landing_pointsTo 𝒱₀ ER (ringRd m ρ) (c : Thread nD τ) none (κ₁ := K (c, some (0, kk, h))) (κ₂ := K (fwd c kk, some (1, kk, h)))
      (r₁ := 0) (r₂ := 0) (d₁ := (0 : Fin 8)) (d₂ := (0 : Fin 8)) (fd := fd) (fs := X m ρ c) (q := fullShare)
      (by rw [duties_dma m ρ c 0 kk h hk]; exact Finset.mem_singleton_self _) (by rw [duties_dma m ρ (fwd c kk) 1 kk h hk]; exact Finset.mem_singleton_self _)
      () () N (amt_slot _ _ _) (amount_dma m ρ c 0 kk h 0) (amount_dma m ρ (fwd c kk) 1 kk h 0) (owed c (o + 1)) hO (W := W)
      (by rw [payload_dma]; exact BI.Entails.refl _)
      (by
        rw [payload_dma]
        show _ ⊢ recv1Pay m ρ (fwd c kk) kk h
        unfold recv1Pay xbPts rsPts
        rw [bwd_fwd, pointsTo_congr (landed1 m ρ c kk h fd)])) $$ [HO Ht Ht' Hx Hr]
  · isplitr; · iapply (env_inv m ρ K (c, some (0, kk, h))); iexact HE
    isplitr; · iapply (env_inv m ρ K (fwd c kk, some (1, kk, h))); iexact HE
    isplitl [Hx]; · iexact Hx
    isplitl [Hr]; · iexact Hr
    isplitl [HO]; · iexact HO
    isplitl [Ht]; · iexact Ht
    isplitr; · iapply (env_reached m ρ K (c, some (0, kk, h))); iexact HE
    isplitl [Ht']; · iexact Ht'
    iapply (env_reached m ρ K (fwd c kk, some (1, kk, h))); iexact HE
  iintro ⟨Hc, HO⟩
  iapply Hk
  isplitl [HO]
  · isplitr; · iexact HE
    iexists W; iexact HO
  isplitl [Hrest]; · iexact Hrest
  isplitl [Hc]; · unfold sent; iexact Hc
  iexact Hdone

/-- A second-phase transfer: the share of the source comes back on the send cell. -/
theorem wp_send2 (h : Fin 2) (n o : ℕ) (hn : n < 7) (ho : o = 21 + 7 * h.val + n) {d : Dev nD} (hd : d = fwd c ⟨n + 1, by omega⟩)
    {src dst : Memref sig .tc .vmem S128x256 .bf16} (hs : src = blkM c h) (ht : dst = blkM c h)
    {sS sR : DmaSem sig} (hS : sS = dsem 2 ⟨n + 1, by omega⟩ h) (hR : sR = dsem 3 ⟨n + 1, by omega⟩ h)
    {hsc : (dst : Memref sig (Dev.tc d : Thread nD τ).2.kind .vmem S128x256 .bf16).view.ref.isScScratch = false}
    {hsrc : src.view.WordExact} {hdst : dst.view.WordExact}
    {hsem : DmaTarget.Typed .vmem (.dma sR) (.remote (Dev.tc d : Thread nD τ) (dst : Memref sig (Dev.tc d : Thread nD τ).2.kind .vmem S128x256 .bf16) (.dma sS) hsc)}
    {α : Type} {Q : α → sProp 𝕄} {k : PUnit → Prog (TpuEff nD τ sig (Elt F) Λ₀ .tc) α} :
    sends2 m ρ K c h n o
      ⊢ iprop((sends2 m ρ K c h (n + 1) (o + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma sS) hsc) (.dma sR) hsrc hdst hsem) k) Q) := by
  have hk := succ_ne_zero hn
  have hO := owed2 c hn ho rfl
  unfold sends2 run
  rw [seg_head (show n + 1 < 8 by omega) (by omega), seg_last (show 1 ≤ n + 1 by omega) (by omega)]
  generalize hkk : (⟨n + 1, by omega⟩ : Fin 8) = kk at *
  subst hd hs ht hS hR
  unfold lane2
  iintro ⟨⟨#HE, ⟨%W, HO⟩⟩, ⟨⟨Hx, Hr, Ht, Ht'⟩, Hrest⟩, Hdone⟩ Hk
  unfold xbPts
  iapply (Rounds.wp_send_pointsTo 𝒱₀ ER (ringRd m ρ) (c : Thread nD τ) none (κ₁ := K (c, some (2, kk, h))) (κ₂ := K (fwd c kk, some (3, kk, h)))
      (r₁ := 0) (r₂ := 0) (d₁ := (0 : Fin 8)) (d₂ := (0 : Fin 8)) (fd := X m ρ (fwd c kk)) (fs := G m ρ) (q := lend kk)
      (by rw [duties_dma m ρ c 2 kk h hk]; exact Finset.mem_singleton_self _) (by rw [duties_dma m ρ (fwd c kk) 3 kk h hk]; exact Finset.mem_singleton_self _)
      () () N (amt_blk _ _ _) (amount_dma m ρ c 2 kk h 0) (amount_dma m ρ (fwd c kk) 3 kk h 0) (owed c (o + 1)) hO (W := W)
      (by rw [payload_dma]; exact BI.Entails.refl _)
      (by
        rw [payload_dma]
        show _ ⊢ recv2Pay m ρ (fwd c kk) kk h
        unfold recv2Pay xbPts
        rw [bwd_fwd, pointsTo_congr (landed2 c h (X m ρ (fwd c kk)) (G m ρ))])) $$ [HO Ht Ht' Hx Hr]
  · isplitr; · iapply (env_inv m ρ K (c, some (2, kk, h))); iexact HE
    isplitr; · iapply (env_inv m ρ K (fwd c kk, some (3, kk, h))); iexact HE
    isplitl [Hx]; · iexact Hx
    isplitl [Hr]; · iexact Hr
    isplitl [HO]; · iexact HO
    isplitl [Ht]; · iexact Ht
    isplitr; · iapply (env_reached m ρ K (c, some (2, kk, h))); iexact HE
    isplitl [Ht']; · iexact Ht'
    iapply (env_reached m ρ K (fwd c kk, some (3, kk, h))); iexact HE
  iintro ⟨Hc, HO⟩
  iapply Hk
  isplitl [HO]
  · isplitr; · iexact HE
    iexists W; iexact HO
  isplitl [Hrest]; · iexact Hrest
  isplitl [Hc]; · unfold sent; iexact Hc
  iexact Hdone

/-! ## The waits on the transfer cells -/

/-- Before the wait at distance `k`: the credit, and the cell at its open round; -/
def pend (p : Fin 4) (h : Fin 2) (k : Fin 8) : sProp 𝕄 := iprop(sent (F := F) c p h k ∗ atPos ER (dcell c p k h) 0 ∅ 0)
/-- after it: the cell past its round, and what the completion handed over. -/
def got (p : Fin 4) (h : Fin 2) (k : Fin 8) : sProp 𝕄 := iprop(atPos ER (dcell c p k h) 1 ∅ 0 ∗ dmaPay m ρ c p k h)

/-- `n` of the seven waits of family `p`, half `h`, done. -/
def waits (p : Fin 4) (h : Fin 2) (n o : ℕ) : sProp 𝕄 := iprop(run m ρ K c o ∗ seg (n + 1) 8 (pend (F := F) c p h) ∗ seg 1 (n + 1) (got m ρ c p h))

theorem wp_dwait (p : Fin 4) (h : Fin 2) (n o : ℕ) (hn : n < 7) (hl : lvl (.dma (dsem p ⟨n + 1, by omega⟩ h)) < owedLvl o ∨ o = 35)
    {src dst : Memref sig .tc .vmem S128x256 .bf16} (hN : dst.view.dmaCredit = N) {s : DmaSem sig} (hs : s = dsem p ⟨n + 1, by omega⟩ h)
    {h₁ : src.view.WordExact} {h₂ : dst.view.WordExact}
    {α : Type} {Q : α → sProp 𝕄} {k : PUnit → Prog (TpuEff nD τ sig (Elt F) Λ₀ .tc) α} :
    waits m ρ K c p h n o
      ⊢ iprop((waits m ρ K c p h (n + 1) o -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst h₁ h₂) k) Q) := by
  have hk := succ_ne_zero hn
  unfold waits run
  rw [seg_head (show n + 1 < 8 by omega) (by omega), seg_last (show 1 ≤ n + 1 by omega) (by omega)]
  generalize hkk : (⟨n + 1, by omega⟩ : Fin 8) = kk at *
  subst hs
  unfold pend got sent
  iintro ⟨⟨#HE, ⟨%W, HO⟩⟩, ⟨⟨Hc, Ha⟩, Hrest⟩, Hdone⟩ Hk
  iapply (Rounds.wp_wait_rest_token 𝒱₀ ER (ringRd m ρ) (c : Thread nD τ) none (κ := K (c, some (p, kk, h)))
      (wpE_waitDma2_eq 𝒱₀ (c : Thread nD τ) none Set.univ) (Set.mem_univ _) () (O := owed c o) (W := W) (R := 0) (m := 0) (T := ∅)
      (by rw [Nat.zero_add, expect_dma m ρ c p kk h hk, hN])) $$ [Hc HO Ha]
  · isplitr; · iapply (env_inv m ρ K (c, some (p, kk, h))); iexact HE
    isplitl [Hc]; · rw [hN]; iexact Hc
    isplitl [HO]; · iexact HO
    isplitr
    · rcases hl with hl | rfl
      · iapply (mayWait_owed c (.dma (dsem p kk h)) o hl); iapply (env_lev m ρ K); iexact HE
      · iapply (mayWait_end c (.dma (dsem p kk h))); iapply (env_lev m ρ K); iexact HE
    iexact Ha
  iintro ⟨HO, Ha, -, Hp⟩
  ihave Hp := (Entails.of_eq (rest_dma m ρ c p kk h hk)) $$ Hp
  iapply Hk
  isplitl [HO]
  · isplitr; · iexact HE
    iexists _; iexact HO
  isplitl [Hrest]; · iexact Hrest
  isplitl [Ha Hp]
  · isplitl [Ha]; · iexact Ha
    iexact Hp
  iexact Hdone

theorem slot_set (k : Fin 8) (h : Fin 2) : (slotM k h).view.set = (slot k h).set :=
  (View.set_reshape _ _).trans (View.set_slice_whole cc0_scratch1 (slot k h))
theorem slot_sub (k : Fin 8) (h : Fin 2) : rM.view.setOn (slot k h).toLoadRect.set ⊆ (slotM k h).view.set := by
  rw [slot_set]
  exact fun i hi => by obtain ⟨j, hj, rfl⟩ := Finset.mem_map.mp hi; exact hj

/-- The load of the slot received last: the body reads there what `slotV` names. -/
theorem wp_slot (h : Fin 2) (n o : ℕ) (hn : n < 7) {r : LoadRect S8x128x512} (hr : r = (slot ⟨n + 1, by omega⟩ h).toLoadRect)
    {hv : rM.view.LoadsAt r} {α : Type} {Q : α → sProp 𝕄} {k : (r.shape.Idx → Elt F .bf16) → Prog (TpuEff nD τ sig (Elt F) Λ₀ .tc) α} :
    waits m ρ K c 1 h (n + 1) o
      ⊢ iprop((waits m ρ K c 1 h (n + 1) o
            -∗ wp frame (wpE (defs₀ (F := F)) 𝒱₀ (c : Thread nD τ) none) Set.univ (k (rM.view.readAt (Elt F) r (RS m ρ c))) Q)
          -∗ wp frame (wpE (defs₀ (F := F)) 𝒱₀ (c : Thread nD τ) none) Set.univ (.op (.load rM r hv) k) Q) := by
  unfold waits
  rw [seg_last (show 1 ≤ n + 1 by omega) (by omega)]
  generalize hkk : (⟨n + 1, by omega⟩ : Fin 8) = kk at *
  subst hr
  unfold got
  iintro ⟨HR, Hrest, ⟨Ha, Hp⟩, Hdone⟩ Hk
  ihave Hp := (show dmaPay m ρ c 1 kk h ⊢ recv1Pay m ρ c kk h from BI.Entails.refl _) $$ Hp
  unfold recv1Pay rsPts
  icases Hp with ⟨Hs, Hx⟩
  iapply (wp_load 𝒱₀ (c : Thread nD τ) none Set.univ (m := rM) (S := (slotM kk h).view.set) (q := fullShare) (f := RS m ρ c) (slot_sub kk h)) $$ Hs
  iintro Hs
  iapply Hk
  isplitl [HR]; · iexact HR
  isplitl [Hrest]; · iexact Hrest
  isplitl [Ha Hs Hx]
  · isplitl [Ha]; · iexact Ha
    iapply (show recv1Pay m ρ c kk h ⊢ dmaPay m ρ c 1 kk h from BI.Entails.refl _)
    unfold recv1Pay rsPts
    isplitl [Hs]; · iexact Hs
    iexact Hx
  iexact Hdone

end Cert.KernelProof

end
-- ==== Proof.Regions.lean ====
/-
How the two scratch buffers come apart and together: the exchange buffer into its two column halves, a half into the
row blocks of the eight devices, a block into shares; the receive buffer into its sixteen slots.
-/
module

public import proofs.«01_k».proof.Proof.Steps

@[expose] public section

noncomputable section

namespace Cert.KernelProof

open Cert.KernelIdeal Cert.KernelIdeal.Gen

open Idealize.ShloMosaic
open Idealize.ShloMosaic.TcCoe
open Idealize.SL Idealize.SL.RA Idealize.SL.BI
open Idealize.ShloMosaic.Rounds
open scoped Idealize.SL.BI
open Idealize.SL.BI.BIBase Idealize.SL.BI.Laws Idealize.SL.ProofMode Idealize.SL.Sem
open Idealize.ShloMosaic.Ring (pointsTo_blocks pointsTo_sub_blocks pointsTo_blocks_join_exists)
open Idealize.ShloMosaic.Transfers (shareTok shareDrop pointsTo_toks)

variable {F : FTy → Type} [FloatOps F]

local notation "𝕄" => MT nD τ sig Unit (Elt F) ℕ UU ℕ

variable (c : Dev nD)

/-! ## The element sets -/

theorem blk_set (r : Fin 8) (h : Fin 2) : (blkM r h).view.set = (blk r h).set := View.set_slice_whole cc0_scratch0 (blk r h)

theorem mem_blk {r : Fin 8} {h : Fin 2} {i : S1024x512.Idx} :
    i ∈ (blk r h).set ↔ (128 * r.val ≤ (i 0).val ∧ (i 0).val < 128 * r.val + 128) ∧ 256 * h.val ≤ (i 1).val ∧ (i 1).val < 256 * h.val + 256 := by
  rw [Rect.mem_set_unit, Fin.forall_fin_two]; rfl
theorem mem_half {h : Fin 2} {i : S1024x512.Idx} : i ∈ (half h).set ↔ 256 * h.val ≤ (i 1).val ∧ (i 1).val < 256 * h.val + 256 := by
  rw [Rect.mem_set_unit, Fin.forall_fin_two]
  constructor
  · exact fun H => H.2
  · exact fun H => ⟨⟨Nat.zero_le _, by have := (i 0).isLt; show (i 0).val < 0 + 1024; rw [Nat.zero_add]; exact this⟩, H⟩
theorem mem_slot {k : Fin 8} {h : Fin 2} {i : S8x128x512.Idx} :
    i ∈ (slot k h).set ↔ (i 0).val = k.val ∧ 256 * h.val ≤ (i 2).val ∧ (i 2).val < 256 * h.val + 256 := by
  rw [Rect.mem_set_unit, Fin.forall_fin_succ, Fin.forall_fin_two]
  constructor
  · rintro ⟨h0, -, h2⟩
    exact ⟨le_antisymm (Nat.lt_succ_iff.mp h0.2) h0.1, h2⟩
  · rintro ⟨h0, h2⟩
    refine ⟨⟨le_of_eq h0.symm, Nat.lt_succ_iff.mpr (le_of_eq h0)⟩, ⟨Nat.zero_le _, ?_⟩, h2⟩
    have := (i 1).isLt; show (i 1).val < 0 + 128; rw [Nat.zero_add]; exact this

/-- The elements of a row block in a column half, as elements of the exchange buffer. -/
def blkEls (h : Fin 2) (r : Fin 8) : Finset S1024x512.Idx := (blkM r h).view.set
theorem half_blocks_union (h : Fin 2) : (Finset.univ.biUnion (blkEls h)) = (half h).set := by
  ext i
  unfold blkEls
  simp only [Finset.mem_biUnion, Finset.mem_univ, true_and]
  constructor
  · rintro ⟨r, hr⟩
    rw [blk_set] at hr
    exact mem_half.mpr (mem_blk.mp hr).2
  · intro hi
    have h0 : (i 0).val < 1024 := (i 0).isLt
    refine ⟨⟨(i 0).val / 128, by omega⟩, ?_⟩
    rw [blk_set]
    exact mem_blk.mpr ⟨by show 128 * ((i 0).val / 128) ≤ _ ∧ _ < 128 * ((i 0).val / 128) + 128; omega, mem_half.mp hi⟩
theorem blocks_disjoint (h : Fin 2) (r r' : Fin 8) (hr : r ≠ r') : Disjoint (blkEls h r) (blkEls h r') := by
  unfold blkEls; rw [blk_set, blk_set, Finset.disjoint_left]
  intro i hi hi'
  have a := mem_blk.mp hi
  have b := mem_blk.mp hi'
  exact hr (Fin.ext (by omega))
theorem halves_union : (Finset.univ.biUnion fun h : Fin 2 => (half h).set) = Finset.univ := by
  ext i
  simp only [Finset.mem_biUnion, Finset.mem_univ, true_and, iff_true]
  have h1 : (i 1).val < 512 := (i 1).isLt
  exact ⟨⟨(i 1).val / 256, by omega⟩, mem_half.mpr (by show 256 * ((i 1).val / 256) ≤ _ ∧ _ < 256 * ((i 1).val / 256) + 256; omega)⟩
theorem halves_disjoint (h h' : Fin 2) (hh : h ≠ h') : Disjoint (half h).set (half h').set := by
  rw [Finset.disjoint_left]
  intro i hi hi'
  have a := mem_half.mp hi
  have b := mem_half.mp hi'
  exact hh (Fin.ext (by omega))
/-- The elements of a slot, as elements of the receive buffer. -/
def slotEls (x : Fin 8 × Fin 2) : Finset S8x128x512.Idx := (slotM x.1 x.2).view.set
theorem slots_union : (Finset.univ.biUnion slotEls) = Finset.univ := by
  ext i
  simp only [Finset.mem_biUnion, Finset.mem_univ, true_and, iff_true]
  have h2 : (i 2).val < 512 := (i 2).isLt
  refine ⟨(i 0, ⟨(i 2).val / 256, by omega⟩), ?_⟩
  unfold slotEls; rw [slot_set]
  exact mem_slot.mpr ⟨rfl, by show 256 * ((i 2).val / 256) ≤ _ ∧ _ < 256 * ((i 2).val / 256) + 256; omega⟩
theorem slots_disjoint (x x' : Fin 8 × Fin 2) (hx : x ≠ x') : Disjoint (slotEls x) (slotEls x') := by
  unfold slotEls; rw [slot_set, slot_set, Finset.disjoint_left]
  intro i hi hi'
  have a := mem_slot.mp hi
  have b := mem_slot.mp hi'
  exact hx (Prod.ext (Fin.ext (by omega)) (Fin.ext (by omega)))

/-! ## The exchange buffer -/

/-- Half `h` of device `c`'s exchange buffer. -/
def halfPts (h : Fin 2) (q : PosShare TreeShare) (f : (cc0_scratch0 : Ref sig .tc).ty.Contents (Elt F)) : sProp 𝕄 :=
  bM.view.loc (c : Thread nD τ) ↦[(half h).set]{q} f

theorem bigSep_two (Φ : Fin 2 → sProp 𝕄) : bigSep Finset.univ Φ = iprop(Φ 0 ∗ Φ 1) := by
  rw [bigSep_univ_eq_bigSepL [0, 1] (by decide) (by decide), bigSepL_cons_cons, bigSepL_singleton]; rfl

theorem xb_halves (q : PosShare TreeShare) (f : (cc0_scratch0 : Ref sig .tc).ty.Contents (Elt F)) :
    (((c : Thread nD τ).loc cc0_scratch0) ↦{q} f : sProp 𝕄) = iprop(halfPts c 0 q f ∗ halfPts c 1 q f) := by
  rw [← bigSep_two (fun h => halfPts c h q f)]
  exact pointsTo_blocks (ℓ := (c : Thread nD τ).loc cc0_scratch0) (fun h : Fin 2 => (half h).set) halves_disjoint halves_union f

theorem half_blocks (h : Fin 2) (q : PosShare TreeShare) (f : (cc0_scratch0 : Ref sig .tc).ty.Contents (Elt F)) :
    (halfPts c h q f : sProp 𝕄) = bigSep Finset.univ fun r : Fin 8 => xbPts c r h q f :=
  pointsTo_sub_blocks (ℓ := (c : Thread nD τ).loc cc0_scratch0) (blkEls h) (blocks_disjoint h) (half h).set (half_blocks_union h) f

/-- A half as the device's own block and the blocks of the devices after it; -/
theorem half_fwd (h : Fin 2) (q : PosShare TreeShare) (f : (cc0_scratch0 : Ref sig .tc).ty.Contents (Elt F)) :
    (halfPts c h q f : sProp 𝕄) = iprop(xbPts c c h q f ∗ seg 1 8 fun k => xbPts c (fwd c k) h q f) := by
  rw [half_blocks, bigSep_univ_equiv (fwdEquiv c), seg_univ]
  show iprop(xbPts c (fwd c 0) h q f ∗ _) = _
  rw [fwd_zero]; rfl
/-- or of the devices before it. -/
theorem half_bwd (h : Fin 2) (q : PosShare TreeShare) (f : (cc0_scratch0 : Ref sig .tc).ty.Contents (Elt F)) :
    (halfPts c h q f : sProp 𝕄) = iprop(xbPts c c h q f ∗ seg 1 8 fun k => xbPts c (bwd c k) h q f) := by
  rw [half_blocks, bigSep_univ_equiv (bwdEquiv c), seg_univ]
  show iprop(xbPts c (bwd c 0) h q f ∗ _) = _
  rw [bwd_zero]; rfl

/-- A block as the share kept and the eight lent. -/
theorem blk_shares (r : Fin 8) (h : Fin 2) (f : (cc0_scratch0 : Ref sig .tc).ty.Contents (Elt F)) :
    (xbPts c r h fullShare f : sProp 𝕄) = iprop(xbPts c r h keep f ∗ xbPts c r h (lend 0) f ∗ seg 1 8 fun k => xbPts c r h (lend k) f) := by
  rw [← seg_univ (fun k => xbPts c r h (lend k) f)]
  exact equiv_iff.mp ⟨(pointsTo_toks fullShare 8).1, (pointsTo_toks fullShare 8).2⟩

/-! ## The receive buffer -/

/-- Slot `k`, both halves, at some contents. -/
def slotAny (k : Fin 8) : sProp 𝕄 := iprop((∃ f, rsPts (F := F) c k 0 f) ∗ ∃ f, rsPts (F := F) c k 1 f)

theorem slots_all : (bigSep Finset.univ fun x : Fin 8 × Fin 2 => (iprop(∃ f, rsPts (F := F) c x.1 x.2 f) : sProp 𝕄))
    = iprop(slotAny (F := F) c 0 ∗ seg 1 8 (slotAny (F := F) c)) := by
  rw [bigSep_univ_prod, ← seg_univ]
  exact bigSep_congr fun k _ => bigSep_two _

theorem rs_any (k : Fin 8) (h : Fin 2) (f : (cc0_scratch1 : Ref sig .tc).ty.Contents (Elt F)) :
    (rsPts (F := F) c k h f : sProp 𝕄) ⊢ iprop(∃ f, rsPts (F := F) c k h f) := by
  iintro H; iexists f; iexact H

theorem rs_split (f : (cc0_scratch1 : Ref sig .tc).ty.Contents (Elt F)) :
    (((c : Thread nD τ).loc cc0_scratch1) ↦{fullShare} f : sProp 𝕄) ⊢ iprop(slotAny (F := F) c 0 ∗ seg 1 8 (slotAny (F := F) c)) := by
  rw [← slots_all, pointsTo_blocks (ℓ := (c : Thread nD τ).loc cc0_scratch1) slotEls slots_disjoint slots_union f]
  exact bigSep_mono fun x _ => rs_any c x.1 x.2 f
theorem rs_join (f₀ : (cc0_scratch1 : Ref sig .tc).ty.Contents (Elt F)) :
    iprop(slotAny (F := F) c 0 ∗ seg 1 8 (slotAny (F := F) c)) ⊢ (iprop(∃ f, ((c : Thread nD τ).loc cc0_scratch1) ↦{fullShare} f) : sProp 𝕄) := by
  rw [← slots_all]
  exact pointsTo_blocks_join_exists (ℓ := (c : Thread nD τ).loc cc0_scratch1) slotEls slots_disjoint slots_union f₀

end Cert.KernelProof

end
-- ==== Proof.Exchange.lean ====
/-
How one phase of the body passes what it holds to the next: the entry to and the exit from each of the states of the
step rules, and the buffers put together again at the end.
-/
module

public import proofs.«01_k».proof.Proof.Regions

@[expose] public section

noncomputable section

namespace Cert.KernelProof

open Cert.KernelIdeal Cert.KernelIdeal.Gen

open Idealize.ShloMosaic
open Idealize.ShloMosaic.TcCoe
open Idealize.SL Idealize.SL.RA Idealize.SL.BI
open Idealize.ShloMosaic.Rounds
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg) (K : Dev nD × Kix → ℕ) (c : Dev nD)

/-! ## What a device is given at launch -/

/-- The token of the duty its signal to the device `k` after pays; -/
def barTok (k : Fin 8) : sProp 𝕄 := dutyTok ER (barCell (fwd c k)) 0 (opp k)
/-- the device on whose cell of family `p` the transfer at distance `k` pays a duty; -/
def payee (k : Fin 8) : Fin 4 → Dev nD
  | 0 => c
  | 1 => fwd c k
  | 2 => c
  | 3 => fwd c k
/-- the token of that duty; -/
def tk (p : Fin 4) (h : Fin 2) (k : Fin 8) : sProp 𝕄 := dutyTok ER (dcell (payee c k p) p k h) 0 0
/-- its own transfer cells at round `R`. -/
def ats (R : ℕ) (p : Fin 4) (h : Fin 2) (k : Fin 8) : sProp 𝕄 := atPos ER (dcell c p k h) R ∅ 0

/-- One assertion per family and half. -/
def grid (Φ : Fin 4 → Fin 2 → sProp 𝕄) : sProp 𝕄 := bigSep Finset.univ fun p => bigSep Finset.univ fun h => Φ p h

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem grid_eq (Φ : Fin 4 → Fin 2 → sProp 𝕄) :
    grid Φ = iprop((Φ 0 0 ∗ Φ 0 1) ∗ (Φ 1 0 ∗ Φ 1 1) ∗ (Φ 2 0 ∗ Φ 2 1) ∗ (Φ 3 0 ∗ Φ 3 1)) := by
  unfold grid; rw [bigSep_four]; simp only [bigSep_two]
theorem all_sep {I : Type} [Fintype I] (Φ Ψ : I → sProp 𝕄) :
    bigSep Finset.univ (fun i => iprop(Φ i ∗ Ψ i)) = iprop(bigSep Finset.univ Φ ∗ bigSep Finset.univ Ψ) := bigSep_sep _ _ _
/-- A family over families, distances and halves: distance 0, and the seven others. -/
theorem grid_all (Ψ : Fin 4 → Fin 2 → Fin 8 → sProp 𝕄) :
    (bigSep Finset.univ fun x : Fin 4 × Fin 8 × Fin 2 => Ψ x.1 x.2.2 x.2.1) = iprop(grid (fun p h => Ψ p h 0) ∗ grid (fun p h => seg 1 8 (Ψ p h))) := by
  unfold grid
  rw [bigSep_univ_prod, ← all_sep]
  refine bigSep_congr fun p _ => ?_
  rw [bigSep_univ_prod, bigSep_univ_comm, ← all_sep]
  exact bigSep_congr fun h _ => seg_univ _

/-- Everything a device is given to run with besides its buffers. -/
def hands : sProp 𝕄 :=
  iprop(seg 1 8 (barTok (F := F) c) ∗ cred (tallyAt (barCell c) () 7) ∗ atPos ER (barCell c) 0 ∅ 0
    ∗ grid (fun p h => seg 1 8 (tk (F := F) c p h))
    ∗ (seg 1 8 (sent (F := F) c 1 0) ∗ seg 1 8 (sent (F := F) c 1 1)) ∗ (seg 1 8 (sent (F := F) c 3 0) ∗ seg 1 8 (sent (F := F) c 3 1))
    ∗ grid (fun p h => ats (F := F) c 0 p h 0) ∗ grid (fun p h => seg 1 8 (ats (F := F) c 0 p h)))

/-! ## Entries and exits -/

theorem signals_intro : iprop(run m ρ K c 0 ∗ seg 1 8 (slotAny (F := F) c) ∗ seg 1 8 (barTok (F := F) c)) ⊢ signals m ρ K c 0 := by
  unfold signals
  rw [← seg_opp (slotAny (F := F) c), ← seg_sep]
  exact BI.Entails.refl _
theorem signals_elim : signals m ρ K c 7 ⊢ run m ρ K c 7 := by
  unfold signals; iintro ⟨H, -⟩; iexact H

/-- The slots the barrier brought, by half. -/
theorem barPay_halves : seg 1 8 (barPay (F := F) c)
    = iprop(seg 1 8 (fun k => iprop(∃ f, rsPts (F := F) (fwd c k) k 0 f)) ∗ seg 1 8 (fun k => iprop(∃ f, rsPts (F := F) (fwd c k) k 1 f))) :=
  seg_sep _ _ _ _

theorem sends1_intro (h : Fin 2) (o : ℕ) :
    iprop(run m ρ K c o ∗ seg 1 8 (fun k => xbPts c (fwd c k) h fullShare (X m ρ c)) ∗ seg 1 8 (fun k => iprop(∃ f, rsPts (F := F) (fwd c k) k h f))
        ∗ seg 1 8 (tk (F := F) c 0 h) ∗ seg 1 8 (tk (F := F) c 1 h))
      ⊢ sends1 m ρ K c h 0 o := by
  unfold sends1
  rw [seg_nil, show seg (0 + 1) 8 (lane1 m ρ c h) = iprop(seg 1 8 (fun k => xbPts c (fwd c k) h fullShare (X m ρ c))
    ∗ seg 1 8 (fun k => iprop(∃ f, rsPts (F := F) (fwd c k) k h f)) ∗ seg 1 8 (tk (F := F) c 0 h) ∗ seg 1 8 (tk (F := F) c 1 h)) by
      rw [← seg_sep, ← seg_sep, ← seg_sep]; rfl]
  iintro ⟨HR, H⟩
  isplitl [HR]; · iexact HR
  isplitl [H]; · iexact H
  iempintro
theorem sends1_elim (h : Fin 2) (o : ℕ) : sends1 m ρ K c h 7 o ⊢ iprop(run m ρ K c o ∗ seg 1 8 (sent (F := F) c 0 h)) := by
  unfold sends1; iintro ⟨HR, -, H⟩
  isplitl [HR]; · iexact HR
  iexact H

theorem waits_intro (p : Fin 4) (h : Fin 2) (o : ℕ) :
    iprop(run m ρ K c o ∗ seg 1 8 (sent (F := F) c p h) ∗ seg 1 8 (ats (F := F) c 0 p h)) ⊢ waits m ρ K c p h 0 o := by
  unfold waits
  rw [seg_nil, ← seg_sep]
  iintro ⟨HR, H⟩
  isplitl [HR]; · iexact HR
  isplitl [H]; · iexact H
  iempintro
theorem waits_elim (p : Fin 4) (h : Fin 2) (o : ℕ) :
    waits m ρ K c p h 7 o ⊢ iprop(run m ρ K c o ∗ seg 1 8 (ats (F := F) c 1 p h) ∗ seg 1 8 (fun k => dmaPay m ρ c p k h)) := by
  unfold waits
  rw [← seg_sep]
  iintro ⟨HR, -, H⟩
  isplitl [HR]; · iexact HR
  iexact H

/-- What the first phase brings: its own slots filled, and the rows it sends its reduced block to on the others. -/
theorem recv1_all (h : Fin 2) : seg 1 8 (fun k => dmaPay m ρ c 1 k h)
    = iprop(seg 1 8 (fun k => rsPts c k h (RS m ρ c)) ∗ seg 1 8 (fun k => xbPts (fwd c k) c h fullShare (X m ρ (fwd c k)))) := by
  rw [← seg_opp (fun k => xbPts (fwd c k) c h fullShare (X m ρ (fwd c k)))]
  refine Eq.trans ?_ (seg_sep _ _ _ _)
  congr 1
  funext k
  rw [← bwd_opp c (opp k), opp_opp]
  rfl

theorem sends2_intro (h : Fin 2) (o : ℕ) :
    iprop(run m ρ K c o ∗ xbPts c c h fullShare (G m ρ) ∗ seg 1 8 (fun k => xbPts (fwd c k) c h fullShare (X m ρ (fwd c k)))
        ∗ seg 1 8 (tk (F := F) c 2 h) ∗ seg 1 8 (tk (F := F) c 3 h))
      ⊢ iprop(sends2 m ρ K c h 0 o ∗ xbPts c c h keep (G m ρ) ∗ xbPts c c h (lend 0) (G m ρ)) := by
  unfold sends2
  rw [seg_nil, blk_shares, show seg (0 + 1) 8 (lane2 m ρ c h) = iprop(seg 1 8 (fun k => xbPts c c h (lend k) (G m ρ))
    ∗ seg 1 8 (fun k => xbPts (fwd c k) c h fullShare (X m ρ (fwd c k))) ∗ seg 1 8 (tk (F := F) c 2 h) ∗ seg 1 8 (tk (F := F) c 3 h)) by
      rw [← seg_sep, ← seg_sep, ← seg_sep]; rfl]
  iintro ⟨HR, ⟨Hk, H0, Hl⟩, H⟩
  isplitl [HR Hl H]
  · isplitl [HR]; · iexact HR
    isplitl [Hl H]
    · isplitl [Hl]; · iexact Hl
      iexact H
    iempintro
  isplitl [Hk]; · iexact Hk
  iexact H0
theorem sends2_elim (h : Fin 2) (o : ℕ) : sends2 m ρ K c h 7 o ⊢ iprop(run m ρ K c o ∗ seg 1 8 (sent (F := F) c 2 h)) := by
  unfold sends2; iintro ⟨HR, -, H⟩
  isplitl [HR]; · iexact HR
  iexact H

/-! ## The halves after the second phase -/

/-- The eight shares of rows `r` lent, or not. -/
def lends (r : Fin 8) (h : Fin 2) : sProp 𝕄 := iprop(xbPts c r h (lend 0) (G m ρ) ∗ seg 1 8 fun k => xbPts c r h (lend k) (G m ρ))

/-- A half whose own rows are partly still lent, readable. -/
theorem gathered (h : Fin 2) :
    iprop(xbPts c c h keep (G m ρ) ∗ seg 1 8 (fun k => dmaPay m ρ c 3 k h))
      ⊢ iprop(halfPts c h keep (G m ρ) ∗ seg 1 8 (fun k => lends m ρ c (bwd c k) h)) := by
  rw [half_bwd, show seg 1 8 (fun k => dmaPay m ρ c 3 k h) = iprop(seg 1 8 (fun k => xbPts c (bwd c k) h keep (G m ρ)) ∗ seg 1 8 (fun k => lends m ρ c (bwd c k) h)) by
    rw [← seg_sep]; congr 1; funext k; exact blk_shares c (bwd c k) h (G m ρ)]
  iintro ⟨Ho, Hk, Hl⟩
  isplitl [Ho Hk]
  · isplitl [Ho]; · iexact Ho
    iexact Hk
  iexact Hl

/-- The shares back, the half is held whole. -/
theorem half_back (h : Fin 2) :
    iprop(halfPts c h keep (G m ρ) ∗ seg 1 8 (fun k => lends m ρ c (bwd c k) h) ∗ xbPts c c h (lend 0) (G m ρ) ∗ seg 1 8 (fun k => dmaPay m ρ c 2 k h))
      ⊢ halfPts c h fullShare (G m ρ) := by
  rw [half_bwd, half_bwd c h fullShare, show seg 1 8 (fun k => xbPts c (bwd c k) h fullShare (G m ρ))
    = iprop(seg 1 8 (fun k => xbPts c (bwd c k) h keep (G m ρ)) ∗ seg 1 8 (fun k => lends m ρ c (bwd c k) h)) by
      rw [← seg_sep]; congr 1; funext k; exact blk_shares c (bwd c k) h (G m ρ), blk_shares c c h]
  iintro ⟨⟨Ho, Hk⟩, Hl, H0, Hs⟩
  isplitl [Ho H0 Hs]
  · isplitl [Ho]; · iexact Ho
    isplitl [H0]; · iexact H0
    iexact Hs
  isplitl [Hk]; · iexact Hk
  iexact Hl

/-- The receive buffer whole again. -/
theorem rs_back (f₀ : (cc0_scratch1 : Ref sig .tc).ty.Contents (Elt F)) :
    iprop(slotAny (F := F) c 0 ∗ seg 1 8 (fun k => rsPts c k 0 (RS m ρ c)) ∗ seg 1 8 (fun k => rsPts c k 1 (RS m ρ c)))
      ⊢ (iprop(∃ f, ((c : Thread nD τ).loc cc0_scratch1) ↦{fullShare} f) : sProp 𝕄) := by
  have h : ∀ k : Fin 8, iprop(rsPts c k 0 (RS m ρ c) ∗ rsPts c k 1 (RS m ρ c)) ⊢ slotAny (F := F) c k := fun k => by
    unfold slotAny; iintro ⟨H0, H1⟩
    isplitl [H0]
    · iexists _; iexact H0
    iexists _; iexact H1
  rw [← seg_sep]
  iintro ⟨H0, H⟩
  iapply (rs_join c f₀)
  isplitl [H0]; · iexact H0
  iapply (seg_mono 1 8 (fun k _ => h k)) $$ H

/-! ## The cells closed -/

theorem seg_env {Φ Ψ : Fin 8 → sProp 𝕄} (a b : ℕ) (h : ∀ k : Fin 8, a ≤ k.val → iprop(env m ρ K ∗ Φ k) ⊢ |={Set.univ}=> Ψ k) :
    iprop(env m ρ K ∗ seg a b Φ) ⊢ |={Set.univ}=> seg a b Ψ :=
  (sep_mono_left (BI.bigSep_of_persistent (Finset.univ.filter fun k : Fin 8 => a ≤ k.val ∧ k.val < b) (env m ρ K))).trans
    ((Entails.of_eq (bigSep_sep _ _ _).symm).trans
      ((bigSep_mono fun k hk => h k (Finset.mem_filter.mp hk).2.1).trans (bigSep_fupd _ _)))

/-- A counter at zero. -/
def zer (p : Fin 4) (h : Fin 2) (k : Fin 8) : sProp 𝕄 := semVal (dcell c p k h) 0

theorem close_one (p : Fin 4) (h : Fin 2) (k : Fin 8) : iprop(env m ρ K ∗ ats (F := F) c 1 p h k) ⊢ |={Set.univ}=> zer (F := F) c p h k := by
  unfold ats zer
  iintro ⟨#HE, Ha⟩
  iapply (Rounds.cell_close ER (ringRd m ρ) (Set.mem_univ (K (c, some (p, k, h)))) (fun h => h) (R := 0 + 1) (duties_later m ρ (dcell c p k h)))
  isplitr; · iapply (env_inv m ρ K (c, some (p, k, h))); iexact HE
  iexact Ha
/-- The cells at distance 0 were never used: they have no duty at any round. -/
theorem close_zero (p : Fin 4) (h : Fin 2) : iprop(env m ρ K ∗ ats (F := F) c 0 p h 0) ⊢ |={Set.univ}=> zer (F := F) c p h 0 := by
  unfold ats zer
  iintro ⟨#HE, Ha⟩
  iapply (Rounds.cell_close ER (ringRd m ρ) (Set.mem_univ (K (c, some (p, 0, h)))) (fun h => h) (R := 0)
    (fun r _ => by rcases Nat.eq_zero_or_pos r with rfl | hr; · exact duties_zero m ρ c p h
                   exact duties_later m ρ (dcell c p 0 h) r hr))
  isplitr; · iapply (env_inv m ρ K (c, some (p, 0, h))); iexact HE
  iexact Ha
theorem close_bar : iprop(env m ρ K ∗ atPos ER (barCell c) 1 ∅ 0) ⊢ |={Set.univ}=> (semVal (barCell c) 0 : sProp 𝕄) := by
  iintro ⟨#HE, Ha⟩
  iapply (Rounds.cell_close ER (ringRd m ρ) (Set.mem_univ (K (c, none))) (fun h => h) (R := 0 + 1) (duties_later m ρ (barCell c)))
  isplitr; · iapply (env_inv m ρ K (c, none)); iexact HE
  iexact Ha

theorem grid_env {Φ Ψ : Fin 4 → Fin 2 → sProp 𝕄} (h : ∀ p h', iprop(env m ρ K ∗ Φ p h') ⊢ |={Set.univ}=> Ψ p h') :
    iprop(env m ρ K ∗ grid Φ) ⊢ |={Set.univ}=> grid Ψ := by
  have one : ∀ p, iprop(env m ρ K ∗ bigSep Finset.univ (Φ p)) ⊢ |={Set.univ}=> bigSep Finset.univ (Ψ p) := fun p =>
    (sep_mono_left (BI.bigSep_of_persistent Finset.univ (env m ρ K))).trans
      ((Entails.of_eq (bigSep_sep _ _ _).symm).trans ((bigSep_mono fun h' _ => h p h').trans (bigSep_fupd _ _)))
  exact (sep_mono_left (BI.bigSep_of_persistent Finset.univ (env m ρ K))).trans
    ((Entails.of_eq (bigSep_sep _ _ _).symm).trans ((bigSep_mono fun p _ => one p).trans (bigSep_fupd _ _)))

/-- All of a device's cells closed at the end. -/
theorem close_all :
    iprop(env m ρ K ∗ atPos ER (barCell c) 1 ∅ 0 ∗ grid (fun p h => ats (F := F) c 0 p h 0) ∗ grid (fun p h => seg 1 8 (ats (F := F) c 1 p h)))
      ⊢ |={Set.univ}=> iprop(semVal (barCell c) 0 ∗ bigSep Finset.univ fun x : Fin 4 × Fin 8 × Fin 2 => zer (F := F) c x.1 x.2.2 x.2.1) := by
  rw [grid_all (zer (F := F) c)]
  iintro ⟨#HE, Hb, H0, H1⟩
  imod (close_bar m ρ K c) $$ [Hb] with Hb
  · isplitr; · iexact HE
    iexact Hb
  imod (grid_env m ρ K (fun p h => close_zero m ρ K c p h)) $$ [H0] with H0
  · isplitr; · iexact HE
    iexact H0
  imod (grid_env m ρ K (fun p h => seg_env m ρ K 1 8 (fun k _ => close_one m ρ K c p h k))) $$ [H1] with H1
  · isplitr; · iexact HE
    iexact H1
  imodintro
  isplitl [Hb]; · iexact Hb
  isplitl [H0]; · iexact H0
  iexact H1

end Cert.KernelProof

end
-- ==== Proof.Credits.lean ====
/-
What the devices owe each other at launch, cell by cell, and the credit each device holds for it: seven signals on its
barrier cell, one block on each of its receive cells at a distance other than 0.
-/
module

public import proofs.«01_k».proof.Proof.Exchange

@[expose] public section

noncomputable section

namespace Cert.KernelProof

open Cert.KernelIdeal Cert.KernelIdeal.Gen

open Idealize.ShloMosaic
open Idealize.ShloMosaic.TcCoe
open Idealize.SL Idealize.SL.RA Idealize.SL.BI
open Idealize.ShloMosaic.Rounds
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The semaphore the `n`-th remote action of a device pays on, on whichever device. -/
def owedSem (n : ℕ) : SemLoc sig :=
  if n < 7 then .reg barS else if n < 14 then .dma (dsem 1 (dist n) 0) else if n < 21 then .dma (dsem 1 (dist n) 1)
  else if n < 28 then .dma (dsem 3 (dist n) 0) else .dma (dsem 3 (dist n) 1)

theorem owedCell_eq (d : Dev nD) (n : ℕ) : owedCell d n = ((fwd d (dist n) : Thread nD τ), owedSem n) := by
  unfold owedCell owedSem; (repeat' split) <;> rfl

theorem cell_eq_iff {a c : Dev nD} {s t : SemLoc sig} : Iff (((a : Thread nD τ), s) = ((c : Thread nD τ), t)) (a = c ∧ s = t) :=
  ⟨fun h => ⟨Fin.ext (congrArg (fun g : GSem nD τ sig => g.1.1.val) h), congrArg Prod.snd h⟩, fun ⟨h, h'⟩ => by rw [h, h']⟩

/-- Over the eight devices, the `n`-th actions pay each device once, on the one semaphore. -/
theorem owed_once (c : Dev nD) (sm : SemLoc sig) (n : ℕ) :
    ∑ d : Dev nD, (tallyAt (owedCell d n) () (owedAmt n) : CellTallies nD τ sig Unit) ((c : Thread nD τ), sm) () = if owedSem n = sm then owedAmt n else 0 := by
  have e : ∀ d : Dev nD, (tallyAt (owedCell d n) () (owedAmt n) : CellTallies nD τ sig Unit) ((c : Thread nD τ), sm) ()
      = if fwd d (dist n) = c then (if owedSem n = sm then owedAmt n else 0) else 0 := fun d => by
    rw [tallyAt_apply, owedCell_eq]
    by_cases h1 : fwd d (dist n) = c
    · by_cases h2 : owedSem n = sm
      · rw [if_pos h1, if_pos h2, if_pos ⟨by rw [h1, h2], rfl⟩]
      · rw [if_pos h1, if_neg h2, if_neg fun h => h2 (cell_eq_iff.mp h.1).2.symm]
    · rw [if_neg h1, if_neg fun h => h1 (cell_eq_iff.mp h.1).1.symm]
  rw [Finset.sum_congr rfl fun d _ => e d]
  refine ((shiftEquiv (dist n)).sum_comp (fun d => if d = c then (if owedSem n = sm then owedAmt n else 0) else 0)).trans ?_
  rw [Finset.sum_ite_eq' Finset.univ c, if_pos (Finset.mem_univ _)]

theorem owed_total (c : Dev nD) (sm : SemLoc sig) :
    ∑ d : Dev nD, owed d 0 ((c : Thread nD τ), sm) () = ∑ n ∈ Finset.range 35, if owedSem n = sm then owedAmt n else 0 := by
  unfold owed
  rw [← Finset.range_eq_Ico]
  simp only [Finset.sum_apply, Finsupp.finset_sum_apply]
  rw [Finset.sum_comm]
  exact Finset.sum_congr rfl fun n _ => owed_once c sm n

theorem owedSem_bar : ∀ n ∈ Finset.range 35, Iff (owedSem n = .reg barS) (n < 7) := by decide +kernel
theorem owedSem_recv1 : ∀ (k : Fin 8) (h : Fin 2), k ≠ 0 → ∀ n ∈ Finset.range 35, Iff (owedSem n = .dma (dsem 1 k h)) (n = 6 + 7 * h.val + k.val) := by decide +kernel
theorem owedSem_recv3 : ∀ (k : Fin 8) (h : Fin 2), k ≠ 0 → ∀ n ∈ Finset.range 35, Iff (owedSem n = .dma (dsem 3 k h)) (n = 20 + 7 * h.val + k.val) := by decide +kernel

theorem total_bar (c : Dev nD) : ∑ d : Dev nD, owed d 0 (barCell c) () = 7 := by
  rw [owed_total, Finset.sum_congr rfl fun n hn => show _ = if n < 7 then 1 else 0 from by
    by_cases h : n < 7
    · rw [if_pos h, if_pos ((owedSem_bar n hn).mpr h)]; exact if_pos h
    · rw [if_neg h, if_neg fun e => h ((owedSem_bar n hn).mp e)]]
  decide

theorem total_dma (c : Dev nD) (sm : SemLoc sig) (i : ℕ) (h7 : 7 ≤ i) (hi : i < 35) (hs : ∀ n ∈ Finset.range 35, Iff (owedSem n = sm) (n = i)) :
    ∑ d : Dev nD, owed d 0 ((c : Thread nD τ), sm) () = N := by
  rw [owed_total, Finset.sum_eq_single i (fun n hn hne => if_neg fun e => hne ((hs n hn).mp e)) (fun h => absurd (Finset.mem_range.mpr hi) h),
    if_pos ((hs i (Finset.mem_range.mpr hi)).mpr rfl)]
  exact if_neg (by omega)

theorem launch_of (c : Dev nD) (sm : SemLoc sig) (a : ℕ) (h : ∑ d : Dev nD, owed d 0 ((c : Thread nD τ), sm) () = a) :
    tallyOn ((c : Thread nD τ), sm) (launchCredit (Pipeline.owing fun d => owed d 0) 0 ((c : Thread nD τ), sm))
      = (tallyAt ((c : Thread nD τ), sm) () a : CellTallies nD τ sig Unit) := by
  unfold tallyAt; refine congrArg _ (Finsupp.ext fun u => ?_); cases u
  rw [Pipeline.launchCredit_owing, Finsupp.single_eq_same, h]

theorem launch_bar (c : Dev nD) : tallyOn (barCell c) (launchCredit (Pipeline.owing fun d => owed d 0) 0 (barCell c))
    = (tallyAt (barCell c) () 7 : CellTallies nD τ sig Unit) := launch_of c _ _ (total_bar c)
theorem launch_recv1 (c : Dev nD) (k : Fin 8) (h : Fin 2) (hk : k ≠ 0) : tallyOn (dcell c 1 k h) (launchCredit (Pipeline.owing fun d => owed d 0) 0 (dcell c 1 k h))
    = (tallyAt (dcell c 1 k h) () N : CellTallies nD τ sig Unit) :=
  launch_of c _ _ (total_dma c _ (6 + 7 * h.val + k.val) (by have := Fin.pos_iff_ne_zero.mpr hk; have : 0 < k.val := this; omega) (by omega) (owedSem_recv1 k h hk))
theorem launch_recv3 (c : Dev nD) (k : Fin 8) (h : Fin 2) (hk : k ≠ 0) : tallyOn (dcell c 3 k h) (launchCredit (Pipeline.owing fun d => owed d 0) 0 (dcell c 3 k h))
    = (tallyAt (dcell c 3 k h) () N : CellTallies nD τ sig Unit) :=
  launch_of c _ _ (total_dma c _ (20 + 7 * h.val + k.val) (by omega) (by omega) (owedSem_recv3 k h hk))

/-! ## A family over a device's cells -/

/-- A family over a device's cells: the barrier's, and the transfer cells'. -/
theorem bigSep_kix (Φ : Kix → sProp 𝕄) : bigSep Finset.univ Φ = iprop(Φ none ∗ bigSep Finset.univ fun x : Fin 4 × Fin 8 × Fin 2 => Φ (some x)) := by
  rw [bigSep_univ_split (none : Kix), show (Finset.univ.erase (none : Kix)) = (Finset.univ : Finset (Fin 4 × Fin 8 × Fin 2)).map Function.Embedding.some by decide, bigSep_map]
  rfl

theorem csem_injective : Function.Injective csem := by
  rintro (_ | ⟨p, k, h⟩) (_ | ⟨p', k', h'⟩) e
  · rfl
  · cases e
  · cases e
  · have e' : dsem p k h = dsem p' k' h' := by injection e
    have e2 := congrArg dec e'
    rw [dec_dsem, dec_dsem] at e2
    rw [e2]

/-- The credit a device holds at launch. -/
theorem creds (c : Dev nD) :
    (Pipeline.launchCred (fun d => owed d 0) c : sProp 𝕄)
      ⊢ iprop(cred (tallyAt (barCell c) () 7) ∗ (seg 1 8 (sent (F := F) c 1 0) ∗ seg 1 8 (sent (F := F) c 1 1)) ∗ (seg 1 8 (sent (F := F) c 3 0) ∗ seg 1 8 (sent (F := F) c 3 1))) := by
  let Ψ : SemLoc sig → sProp 𝕄 := fun sm =>
    cred (tallyOn ((c : Thread nD τ), sm) (launchCredit (Pipeline.owing fun d => owed d 0) 0 ((c : Thread nD τ), sm)))
  have h1 : (Pipeline.launchCred (fun d => owed d 0) c : sProp 𝕄) ⊢ bigSep Finset.univ fun k : Kix => Ψ (csem k) := by
    have h0 : bigSep Finset.univ Ψ ⊢ bigSep (Finset.univ.map ⟨csem, csem_injective⟩) Ψ := bigSep_subset (Finset.subset_univ _)
    rw [bigSep_map] at h0
    exact h0
  have h2 : (bigSep Finset.univ fun k : Kix => Ψ (csem k))
      = iprop(Ψ (.reg barS) ∗ grid (fun p h => Ψ (.dma (dsem p 0 h))) ∗ grid (fun p h => seg 1 8 fun k => Ψ (.dma (dsem p k h)))) := by
    rw [bigSep_kix, ← grid_all (fun p h k => Ψ (.dma (dsem p k h)))]
  have e0 : Ψ (.reg barS) = cred (tallyAt (barCell c) () 7) := congrArg cred (launch_bar c)
  have e1 : ∀ h : Fin 2, (seg 1 8 fun k => Ψ (.dma (dsem 1 k h))) ⊢ seg 1 8 (sent (F := F) c 1 h) := fun h =>
    seg_mono 1 8 fun k hk => Entails.of_eq (congrArg cred (launch_recv1 c k h fun e => by rw [e] at hk; exact absurd hk (by decide)))
  have e3 : ∀ h : Fin 2, (seg 1 8 fun k => Ψ (.dma (dsem 3 k h))) ⊢ seg 1 8 (sent (F := F) c 3 h) := fun h =>
    seg_mono 1 8 fun k hk => Entails.of_eq (congrArg cred (launch_recv3 c k h fun e => by rw [e] at hk; exact absurd hk (by decide)))
  refine h1.trans ?_
  rw [h2, e0, grid_eq (fun p h => seg 1 8 fun k => Ψ (.dma (dsem p k h)))]
  iintro ⟨Hb, -, -, ⟨H10, H11⟩, -, ⟨H30, H31⟩⟩
  isplitl [Hb]; · iexact Hb
  isplitl [H10 H11]
  · isplitl [H10]; · iapply (e1 0); iexact H10
    iapply (e1 1); iexact H11
  isplitl [H30]; · iapply (e3 0); iexact H30
  iapply (e3 1); iexact H31

end Cert.KernelProof

end
-- ==== Proof.Tokens.lean ====
/-
What the launch deals out: every cell's invariant to every device, each device's positions on its own cells, and each
duty's token to the device that pays the duty.
-/
module

public import proofs.«01_k».proof.Proof.Credits

@[expose] public section

noncomputable section

namespace Cert.KernelProof

open Cert.KernelIdeal Cert.KernelIdeal.Gen

open Idealize.ShloMosaic
open Idealize.ShloMosaic.TcCoe
open Idealize.SL Idealize.SL.RA Idealize.SL.BI
open Idealize.ShloMosaic.Rounds
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

theorem kcell_injective : Function.Injective (kcell : Dev nD × Kix → GSem nD τ sig) := fun ⟨c, k⟩ ⟨c', k'⟩ e => by
  obtain ⟨h1, h2⟩ := cell_eq_iff.mp e
  have h1 : c = c' := h1
  have h2 : k = k' := csem_injective h2
  rw [h1, h2]
def allCells : Finset (GSem nD τ sig) := Finset.univ.map ⟨kcell, kcell_injective⟩

/-- A token of every cell for every duty number; those of no duty are let go. -/
abbrev tokOf (x : (Dev nD × Kix) × Fin 8) : GSem nD τ sig × ℕ × Fin 8 := (kcell x.1, 0, x.2)
theorem tokOf_injective : Function.Injective tokOf := fun ⟨x, d⟩ ⟨x', d'⟩ e => by
  have h1 : x = x' := kcell_injective (congrArg (fun y => y.1) e)
  have h2 : d = d' := congrArg (fun y => y.2.2) e
  rw [h1, h2]
def allToks : Finset (GSem nD τ sig × ℕ × Fin 8) := Finset.univ.map ⟨tokOf, tokOf_injective⟩

def u₀ : UU := (initOf (Pipeline.cells cfgs cellOf_inj) (Pipeline.launchToks cfgs cellOf_inj), initOf allCells allToks)

/-- The tokens of device `c`'s own cells. -/
def minted (c : Dev nD) : sProp 𝕄 := bigSep Finset.univ fun k : Kix => bigSep Finset.univ fun d : Fin 8 => dutyTok ER (kcell (c, k)) 0 d
/-- The start of every round on its cells. -/
def opened (c : Dev nD) : sProp 𝕄 := bigSep Finset.univ fun k : Kix => roundState ER (ringRd m ρ) (kcell (c, k)) 0
def placed (c : Dev nD) : sProp 𝕄 := bigSep Finset.univ fun k : Kix => atPos ER (kcell (c, k)) 0 ∅ 0
def begun (c : Dev nD) : sProp 𝕄 := bigSep Finset.univ fun k : Kix => reached ER (kcell (c, k)) 0
/-- What the launch element deals device `c`. -/
def dealt (c : Dev nD) : sProp 𝕄 := iprop(opened m ρ c ∗ placed (F := F) c ∗ begun (F := F) c ∗ minted (F := F) c)

theorem over_cells (Φ : GSem nD τ sig → sProp 𝕄) : bigSep allCells Φ = bigSep Finset.univ fun c : Dev nD => bigSep Finset.univ fun k : Kix => Φ (kcell (c, k)) := by
  unfold allCells; rw [bigSep_map, bigSep_univ_prod]; rfl
theorem over_toks : bigSep allToks (fun x => (dutyTok ER x.1 x.2.1 x.2.2 : sProp 𝕄)) = bigSep Finset.univ fun c : Dev nD => minted (F := F) c := by
  unfold allToks; rw [bigSep_map, bigSep_univ_prod, bigSep_univ_prod]; rfl

/-- The launch element makes each device's start. -/
theorem fund_cells : BI.own (ER (initOf allCells allToks)) ⊢ (|==> bigSep Finset.univ (dealt m ρ) : sProp 𝕄) := by
  iintro HX
  imod (Rounds.fund ER (ringRd m ρ) allCells allToks) $$ HX with ⟨Hst, Hr, Hat, Htok⟩
  imodintro
  ihave Hst := (Entails.of_eq (over_cells fun g => roundState ER (ringRd m ρ) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  rw [show (bigSep Finset.univ (dealt m ρ) : sProp 𝕄)
    = iprop(bigSep Finset.univ (opened m ρ) ∗ bigSep Finset.univ (placed (F := F)) ∗ bigSep Finset.univ (begun (F := F)) ∗ bigSep Finset.univ (minted (F := F))) by
      rw [← all_sep, ← all_sep, ← all_sep]; rfl]
  isplitl [Hst]; · iexact Hst
  isplitl [Hat]; · iexact Hat
  isplitl [Hr]; · iexact Hr
  iexact Htok

/-! ## The cells' invariants -/

/-- The transfer semaphores are the kernel's own; -/
abbrev osem (x : Fin 4 × Fin 8 × Fin 2) : SemLoc sig := .dma (dsem x.1 x.2.1 x.2.2)
/-- the barrier semaphore is the one the program shares. -/
theorem unscopedSems0_eq (c : Dev nD) : (unscopedSems0 c : sProp 𝕄) = semVal (barCell c) 0 := by
  unfold unscopedSems0; rw [bigSep_eq_bigSepL_of_eq [SemLoc.reg barS] (by decide) (by decide)]; rfl

abbrev own0 (c : Dev nD) : sProp 𝕄 := Pipeline.ownSems0 (Ix := Unit) (Name := ℕ) (U := UU) (Lvl := ℕ) (Val := Elt F) (τ := τ) osem c

theorem own0_eq (c : Dev nD) : own0 (F := F) c = bigSep Finset.univ fun x : Fin 4 × Fin 8 × Fin 2 => semVal (dcell c x.1 x.2.1 x.2.2) 0 := rfl

/-- A device's cells with their invariants, its positions, what its cells have reached, its cells' tokens. -/
def allotted (c : Dev nD) : sProp 𝕄 :=
  iprop((bigSep Finset.univ fun k : Kix => iprop(∃ κ : ℕ, cellInv ER (ringRd m ρ) κ (kcell (c, k)))) ∗ placed (F := F) c ∗ begun (F := F) c ∗ minted (F := F) c)

theorem invs_alloc (c : Dev nD) : iprop((bigSep Finset.univ fun k : Kix => semVal (kcell (c, k)) 0) ∗ opened m ρ c)
    ⊢ (|={Set.univ}=> bigSep Finset.univ fun k : Kix => iprop(∃ κ : ℕ, cellInv ER (ringRd m ρ) κ (kcell (c, k))) : sProp 𝕄) := by
  unfold opened
  rw [← all_sep]
  exact (bigSep_mono fun k _ => (Rounds.body_intro ER (ringRd m ρ) (kcell (c, k))).trans inv_alloc).trans (bigSep_fupd _ _)

theorem allot (c : Dev nD) : iprop(own0 (F := F) c ∗ unscopedSems0 c ∗ dealt m ρ c) ⊢ |={Set.univ}=> allotted m ρ c := by
  unfold dealt allotted
  rw [own0_eq, unscopedSems0_eq]
  iintro ⟨Ho, Hu, Hst, Hat, Hr, Htok⟩
  imod (invs_alloc m ρ c) $$ [Ho Hu Hst] with HI
  · isplitl [Ho Hu]
    · rw [bigSep_kix]
      isplitl [Hu]; · iexact Hu
      iexact Ho
    iexact Hst
  imodintro
  isplitl [HI]; · iexact HI
  isplitl [Hat]; · iexact Hat
  isplitl [Hr]; · iexact Hr
  iexact Htok

/-! ## The tokens to their payers -/

/-- What device `c` pays with. -/
def payer (c : Dev nD) : sProp 𝕄 := iprop(seg 1 8 (barTok (F := F) c) ∗ grid (fun p h => seg 1 8 (tk (F := F) c p h)))

/-- The device whose cell the transfer pays is a bijection of the device that pays. -/
def payeeEquiv (k : Fin 8) : Fin 4 → Dev nD ≃ Dev nD
  | 0 => Equiv.refl _
  | 1 => shiftEquiv k
  | 2 => Equiv.refl _
  | 3 => shiftEquiv k
theorem payeeEquiv_apply (k : Fin 8) (p : Fin 4) (c : Dev nD) : payeeEquiv k p c = payee c k p := by
  fin_cases p <;> rfl

theorem bar_around : (bigSep Finset.univ fun c : Dev nD => bigSep Finset.univ fun d : Fin 8 => (dutyTok ER (barCell c) 0 d : sProp 𝕄))
    = bigSep Finset.univ fun c : Dev nD => bigSep Finset.univ (barTok (F := F) c) := by
  rw [bigSep_univ_comm, bigSep_univ_equiv oppEquiv, bigSep_univ_comm (fun (c : Dev nD) k => barTok (F := F) c k)]
  refine bigSep_congr fun k _ => ?_
  rw [bigSep_univ_equiv (shiftEquiv k)]
  rfl
theorem dma_around : (bigSep Finset.univ fun c : Dev nD => bigSep Finset.univ fun x : Fin 4 × Fin 8 × Fin 2 => (dutyTok ER (dcell c x.1 x.2.1 x.2.2) 0 0 : sProp 𝕄))
    = bigSep Finset.univ fun c : Dev nD => bigSep Finset.univ fun x : Fin 4 × Fin 8 × Fin 2 => tk (F := F) c x.1 x.2.2 x.2.1 := by
  rw [bigSep_univ_comm, bigSep_univ_comm (fun (c : Dev nD) (x : Fin 4 × Fin 8 × Fin 2) => tk (F := F) c x.1 x.2.2 x.2.1)]
  refine bigSep_congr fun x _ => ?_
  rw [bigSep_univ_equiv (payeeEquiv x.2.1 x.1)]
  exact bigSep_congr fun c _ => by unfold tk; rw [payeeEquiv_apply]

theorem minted_split (c : Dev nD) : minted (F := F) c ⊢ iprop((bigSep Finset.univ fun d : Fin 8 => dutyTok ER (barCell c) 0 d)
    ∗ bigSep Finset.univ fun x : Fin 4 × Fin 8 × Fin 2 => dutyTok ER (dcell c x.1 x.2.1 x.2.2) 0 0) := by
  unfold minted
  rw [bigSep_kix]
  iintro ⟨Hb, Hd⟩
  isplitl [Hb]; · iexact Hb
  have h : (bigSep Finset.univ fun x : Fin 4 × Fin 8 × Fin 2 => bigSep Finset.univ fun d : Fin 8 => (dutyTok ER (kcell (c, some x)) 0 d : sProp 𝕄))
      ⊢ bigSep Finset.univ fun x : Fin 4 × Fin 8 × Fin 2 => dutyTok ER (dcell c x.1 x.2.1 x.2.2) 0 0 :=
    bigSep_mono fun x _ => of_all (fun d : Fin 8 => (dutyTok ER (kcell (c, some x)) 0 d : sProp 𝕄)) 0
  iapply h; iexact Hd

theorem payer_intro (c : Dev nD) : iprop(bigSep Finset.univ (barTok (F := F) c) ∗ bigSep Finset.univ fun x : Fin 4 × Fin 8 × Fin 2 => tk (F := F) c x.1 x.2.2 x.2.1) ⊢ payer (F := F) c := by
  unfold payer
  rw [seg_univ, grid_all (tk (F := F) c)]
  iintro ⟨⟨-, Hb⟩, -, Hd⟩
  isplitl [Hb]; · iexact Hb
  iexact Hd

/-- Every token to the device that pays its duty. -/
theorem toks_around : bigSep Finset.univ (minted (F := F)) ⊢ bigSep Finset.univ (payer (F := F)) := by
  have h1 : bigSep Finset.univ (minted (F := F)) ⊢ _ := bigSep_mono fun c _ => minted_split c
  rw [all_sep, bar_around, dma_around, ← all_sep] at h1
  have h2 : (bigSep Finset.univ fun c : Dev nD => iprop(bigSep Finset.univ (barTok (F := F) c) ∗ bigSep Finset.univ fun x : Fin 4 × Fin 8 × Fin 2 => tk (F := F) c x.1 x.2.2 x.2.1))
      ⊢ bigSep Finset.univ (payer (F := F)) := bigSep_mono fun c _ => payer_intro c
  iintro H
  iapply h2; iapply h1; iexact H

/-! ## The global step -/

/-- Every cell's invariant, that every cell has reached round 0. -/
def records (K : Dev nD × Kix → ℕ) : sProp 𝕄 :=
  iprop((bigSep Finset.univ fun ck : Dev nD × Kix => cellInv ER (ringRd m ρ) (K ck) (kcell ck)) ∗ bigSep Finset.univ fun ck : Dev nD × Kix => reached ER (kcell ck) 0)
instance records_persistent (K : Dev nD × Kix → ℕ) : BI.Persistent (records m ρ K) := by unfold records; infer_instance

/-- What device `c` starts with, besides its credit. -/
def given (c : Dev nD) : sProp 𝕄 := iprop((∃ K, records m ρ K) ∗ placed (F := F) c ∗ payer (F := F) c)

theorem given_intro (K : Dev nD × Kix → ℕ) (c : Dev nD) : iprop(records m ρ K ∗ placed (F := F) c ∗ payer (F := F) c) ⊢ given m ρ c := by
  unfold given
  iintro ⟨HR, H⟩
  isplitl [HR]; · iexists K; iexact HR
  iexact H

theorem each_with {R : sProp 𝕄} [BI.Persistent R] {Φ Ψ : Dev nD → sProp 𝕄} (h : ∀ c, iprop(R ∗ Φ c) ⊢ Ψ c) : iprop(R ∗ bigSep Finset.univ Φ) ⊢ bigSep Finset.univ Ψ := by
  have h1 : R ⊢ bigSep Finset.univ fun _ : Dev nD => R := BI.bigSep_of_persistent Finset.univ R
  have h2 : (bigSep Finset.univ fun c : Dev nD => iprop(R ∗ Φ c)) ⊢ bigSep Finset.univ Ψ := bigSep_mono fun c _ => h c
  iintro ⟨HR, HΦ⟩
  iapply h2
  rw [all_sep]
  isplitl [HR]; · iapply h1; iexact HR
  iexact HΦ

theorem regroup : bigSep Finset.univ (allotted m ρ) ⊢ bigSep Finset.univ (given m ρ) := by
  rw [show bigSep Finset.univ (allotted m ρ) = iprop((bigSep Finset.univ fun ck : Dev nD × Kix => iprop(∃ κ : ℕ, cellInv ER (ringRd m ρ) κ (kcell ck)))
    ∗ bigSep Finset.univ (placed (F := F)) ∗ (bigSep Finset.univ fun ck : Dev nD × Kix => reached ER (kcell ck) 0) ∗ bigSep Finset.univ (minted (F := F))) by
      rw [bigSep_univ_prod, bigSep_univ_prod (fun ck : Dev nD × Kix => (reached ER (kcell ck) 0 : sProp 𝕄))]
      show _ = iprop(_ ∗ _ ∗ bigSep Finset.univ (begun (F := F)) ∗ _)
      rw [← all_sep, ← all_sep, ← all_sep]; rfl]
  iintro ⟨HI, Hat, #HR, Htok⟩
  ihave HK := (BI.bigSep_exists_pi Finset.univ (fun (ck : Dev nD × Kix) (κ : ℕ) => (cellInv ER (ringRd m ρ) κ (kcell ck) : sProp 𝕄))) $$ HI
  icases HK with ⟨%K, #HI⟩
  ihave Htok := (toks_around (F := F)) $$ Htok
  iapply (each_with fun c => given_intro m ρ K c)
  isplitr
  · unfold records; isplitl; · iexact HI
    iexact HR
  rw [all_sep]
  isplitl [Hat]; · iexact Hat
  iexact Htok

/-- All semaphores of all devices become their cells' invariants, and every device is given its start. -/
theorem glob : (bigSep Finset.univ fun c => iprop(own0 (F := F) c ∗ unscopedSems0 c ∗ dealt m ρ c) : sProp 𝕄) ⊢ |={Set.univ}=> bigSep Finset.univ (given m ρ) :=
  ((bigSep_mono fun c _ => allot m ρ c).trans (bigSep_fupd _ _)).trans (BI.fupd_mono (regroup m ρ))

end Cert.KernelProof

end
-- ==== Proof.Access.lean ====
/-
The body's loads and stores in its own buffers, once, at a symbolic device and column half; the printed addresses of the
transfers as blocks and cells.
-/
module

public import proofs.«01_k».proof.Proof.Exchange

@[expose] public section

noncomputable section

namespace Cert.KernelProof

open Cert.KernelIdeal Cert.KernelIdeal.Gen

open Idealize.ShloMosaic
open Idealize.ShloMosaic.TcCoe
open Idealize.SL Idealize.SL.RA Idealize.SL.BI
open Idealize.ShloMosaic.Rounds
open scoped Idealize.SL.BI
open Idealize.SL.BI.BIBase Idealize.SL.BI.Laws Idealize.SL.ProofMode Idealize.SL.Sem
open Idealize.ShloMosaic.Ring (pointsTo_blocks)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## Addresses -/

/-- The source of a first-phase transfer: the rows of the device it goes to; -/
theorem src1 (r : Fin 7) : bM.slice (Rect.unit (s := S1024x512) (k0_off1 c (BitVec.ofNat 32 (1 + r.val))) S128x256.size (k0_off1_inb c r)) (fun _ => rfl)
    = blkM (fwd c r.succ) 0 := Memref.slice_unit_congr _ (off1_eq c r) _ _ _ _
theorem src2 (r : Fin 7) : bM.slice (Rect.unit (s := S1024x512) (k0_off2 c (BitVec.ofNat 32 (1 + r.val))) S128x256.size (k0_off2_inb c r)) (fun _ => rfl)
    = blkM (fwd c r.succ) 1 := Memref.slice_unit_congr _ (off2_eq c r) _ _ _ _
/-- of a second-phase one: the device's own rows. -/
theorem own4 : bM.slice (Rect.unit (s := S1024x512) (k0_off4 c) S128x256.size (k0_off4_inb c)) (fun _ => rfl) = blkM c 0 :=
  Memref.slice_unit_congr _ (k0_off4_eq c) _ _ _ _
theorem own6 : bM.slice (Rect.unit (s := S1024x512) (k0_off6 c) S128x256.size (k0_off6_inb c)) (fun _ => rfl) = blkM c 1 :=
  Memref.slice_unit_congr _ (k0_off6_eq c) _ _ _ _

/-- A wait counts the bytes of a block, wherever the block lies. -/
theorem credit_blk {off : Fin 2 → ℕ} {inb : ∀ a, off a + S128x256.size a ≤ S1024x512.size a} {hst : ∀ a, (Rect.unit (s := S1024x512) off S128x256.size inb).stride a = 1} :
    ((bM.slice (Rect.unit (s := S1024x512) off S128x256.size inb) hst : Memref sig .tc .vmem S128x256 .bf16)).view.dmaCredit = N := rfl
theorem credit_slot {off : Fin 3 → ℕ} {inb : ∀ a, off a + S1x128x256.size a ≤ S8x128x512.size a} {hst : ∀ a, (Rect.unit (s := S8x128x512) off S1x128x256.size inb).stride a = 1} :
    ((rM.slice (Rect.unit (s := S8x128x512) off S1x128x256.size inb) hst).squeeze S128x256 squeezes_S1x128x256_S128x256).view.dmaCredit = N := rfl

theorem below_recv (k : Fin 8) (h : Fin 2) : lvl (.dma (dsem 1 k h)) = 2 := by
  unfold lvl; simp only [dec_dsem]; rfl
/-- While only second-phase transfers are owed, the first phase's arrivals may be waited for. -/
theorem may1 (k : Fin 8) (h : Fin 2) {o : ℕ} (ho : 21 ≤ o) : lvl (.dma (dsem 1 k h)) < owedLvl o := by
  rw [below_recv]; unfold owedLvl; rw [if_neg (by omega), if_neg (by omega)]; decide

/-! ## The exchange buffer -/

abbrev wpB {α : Type} (p : Prog (TpuEff nD τ sig (Elt F) Λ₀ .tc) α) (Q : α → sProp 𝕄) : sProp 𝕄 :=
  wp frame (wpE (defs₀ (F := F)) 𝒱₀ (c : Thread nD τ) none) Set.univ p Q

theorem half_sub (h : Fin 2) : bM.view.setOn (half h).toLoadRect.set ⊆ (half h).set :=
  fun i hi => by obtain ⟨j, hj, rfl⟩ := Finset.mem_map.mp hi; exact hj
theorem blk_sub (r : Fin 8) (h : Fin 2) : bM.view.setOn (blk r h).toLoadRect.set ⊆ (blkM r h).view.set := by
  rw [blk_set]
  exact fun i hi => by obtain ⟨j, hj, rfl⟩ := Finset.mem_map.mp hi; exact hj

theorem half_sub_store (h : Fin 2) : (bM.access (half h)).setOn Finset.univ ⊆ (half h).set := fun i hi => by
  obtain ⟨x, -, rfl⟩ := Finset.mem_map.mp hi
  exact (View.set_slice_whole cc0_scratch0 (half h)) ▸ (Finset.mem_map.mpr ⟨x, Finset.mem_univ _, rfl⟩)

theorem wp_loadHalf (h : Fin 2) (q : PosShare TreeShare) (f : (cc0_scratch0 : Ref sig .tc).ty.Contents (Elt F))
    {off : Fin 2 → ℕ} (ho : off = ![0, 256 * h.val]) {inb : ∀ a, off a + S1024x256.size a ≤ S1024x512.size a}
    {hv : bM.view.LoadsAt (Rect.unit (s := S1024x512) off S1024x256.size inb).toLoadRect}
    {α : Type} {Q : α → sProp 𝕄} {k : Vec F S1024x256 .bf16 → Prog (TpuEff nD τ sig (Elt F) Λ₀ .tc) α} :
    halfPts c h q f
      ⊢ iprop((halfPts c h q f -∗ wpB c (k (bM.view.readAt (Elt F) (half h).toLoadRect f)) Q)
          -∗ wpB c (.op (.load bM (Rect.unit (s := S1024x512) off S1024x256.size inb).toLoadRect hv) k) Q) := by
  subst ho
  unfold halfPts
  exact wp_load 𝒱₀ (c : Thread nD τ) none Set.univ (m := bM) (S := (half h).set) (q := q) (f := f) (half_sub h)

/-- The store of half the operand. -/
theorem wp_storeHalf (h : Fin 2) (f : (cc0_scratch0 : Ref sig .tc).ty.Contents (Elt F))
    {off : Fin 2 → ℕ} (ho : off = ![0, 256 * h.val]) {inb : ∀ a, off a + S1024x256.size a ≤ S1024x512.size a}
    {v : FVec F S1024x256 .bf16} (hv : v = xM.view.readAt (Elt F) (half h).toLoadRect (X m ρ c))
    {hx : (bM.access (Rect.unit (s := S1024x512) off S1024x256.size inb)).Stores Finset.univ}
    {hm : (Finset.univ : Finset (Rect.unit (s := S1024x512) off S1024x256.size inb).shape.Idx) = Finset.univ ∨ ∀ a, (Rect.unit (s := S1024x512) off S1024x256.size inb).stride a = 1}
    {α : Type} {Q : α → sProp 𝕄} {k : PUnit → Prog (TpuEff nD τ sig (Elt F) Λ₀ .tc) α} :
    halfPts c h fullShare f
      ⊢ iprop((halfPts c h fullShare (X m ρ c) -∗ wpB c (k ⟨⟩) Q)
          -∗ wpB c (.op (.store bM (Rect.unit (s := S1024x512) off S1024x256.size inb) v Finset.univ hx hm) k) Q) := by
  subst ho
  unfold halfPts
  iintro H Hk
  iapply (wp_store 𝒱₀ (c : Thread nD τ) none Set.univ (m := bM) (r := half h) (Mk := Finset.univ) (half_sub_store h)) $$ H
  iintro H
  iapply Hk
  iapply (Entails.of_eq (pointsTo_congr (stored1 m ρ c h f v hv))) $$ H

theorem wp_loadOwn (h : Fin 2) (q : PosShare TreeShare) (f : (cc0_scratch0 : Ref sig .tc).ty.Contents (Elt F))
    {off : Fin 2 → ℕ} (ho : off = ![128 * c.val, 256 * h.val]) {inb : ∀ a, off a + S128x256.size a ≤ S1024x512.size a}
    {hv : bM.view.LoadsAt (Rect.unit (s := S1024x512) off S128x256.size inb).toLoadRect}
    {α : Type} {Q : α → sProp 𝕄} {k : Vec F S128x256 .bf16 → Prog (TpuEff nD τ sig (Elt F) Λ₀ .tc) α} :
    xbPts c c h q f
      ⊢ iprop((xbPts c c h q f -∗ wpB c (k (bM.view.readAt (Elt F) (blk c h).toLoadRect f)) Q)
          -∗ wpB c (.op (.load bM (Rect.unit (s := S1024x512) off S128x256.size inb).toLoadRect hv) k) Q) := by
  subst ho
  unfold xbPts
  exact wp_load 𝒱₀ (c : Thread nD τ) none Set.univ (m := bM) (S := (blkM c h).view.set) (q := q) (f := f) (blk_sub c h)

/-- The store of the reduced block. -/
theorem wp_storeOwn (h : Fin 2) (f : (cc0_scratch0 : Ref sig .tc).ty.Contents (Elt F))
    {off : Fin 2 → ℕ} (ho : off = ![128 * c.val, 256 * h.val]) {inb : ∀ a, off a + S128x256.size a ≤ S1024x512.size a}
    {v : FVec F S128x256 .bf16} (hv : v = redV m ρ c h)
    {hx : (bM.access (Rect.unit (s := S1024x512) off S128x256.size inb)).Stores Finset.univ}
    {hm : (Finset.univ : Finset (Rect.unit (s := S1024x512) off S128x256.size inb).shape.Idx) = Finset.univ ∨ ∀ a, (Rect.unit (s := S1024x512) off S128x256.size inb).stride a = 1}
    {α : Type} {Q : α → sProp 𝕄} {k : PUnit → Prog (TpuEff nD τ sig (Elt F) Λ₀ .tc) α} :
    xbPts c c h fullShare f
      ⊢ iprop((xbPts c c h fullShare (G m ρ) -∗ wpB c (k ⟨⟩) Q)
          -∗ wpB c (.op (.store bM (Rect.unit (s := S1024x512) off S128x256.size inb) v Finset.univ hx hm) k) Q) := by
  subst ho hv
  unfold xbPts
  iintro H Hk
  iapply (wp_store 𝒱₀ (c : Thread nD τ) none Set.univ (m := bM) (r := blk c h) (S := (blkM c h).view.set) (Mk := Finset.univ) (Finset.Subset.refl _)) $$ H
  iintro H
  iapply Hk
  iapply (Entails.of_eq (pointsTo_congr (stored2 m ρ c h f))) $$ H

/-! ## The operand's and the result's staging buffers -/

/-- The operand's staging buffer; -/
def xPts : sProp 𝕄 := ((c : Thread nD τ).loc cc0_stg0_0) ↦{fullShare} (X m ρ c : Buf (Elt F) ((c : Thread nD τ).loc cc0_stg0_0))
/-- a half of the result's. -/
def outPts (h : Fin 2) (f : (cc0_stg1_0 : Ref sig .tc).ty.Contents (Elt F)) : sProp 𝕄 := oM.view.loc (c : Thread nD τ) ↦[(half h).set]{fullShare} f

theorem out_sub_store (h : Fin 2) : (oM.access (half h)).setOn Finset.univ ⊆ (half h).set := fun i hi => by
  obtain ⟨x, -, rfl⟩ := Finset.mem_map.mp hi
  exact (View.set_slice_whole cc0_stg1_0 (half h)) ▸ (Finset.mem_map.mpr ⟨x, Finset.mem_univ _, rfl⟩)

theorem out_halves (f : (cc0_stg1_0 : Ref sig .tc).ty.Contents (Elt F)) :
    (((c : Thread nD τ).loc cc0_stg1_0) ↦{fullShare} f : sProp 𝕄) = iprop(outPts c 0 f ∗ outPts c 1 f) := by
  rw [← bigSep_two (fun h => outPts c h f)]
  exact pointsTo_blocks (ℓ := (c : Thread nD τ).loc cc0_stg1_0) (fun h : Fin 2 => (half h).set) halves_disjoint halves_union f

theorem wp_loadX (h : Fin 2)
    {off : Fin 2 → ℕ} (ho : off = ![0, 256 * h.val]) {inb : ∀ a, off a + S1024x256.size a ≤ S1024x512.size a}
    {hv : xM.view.LoadsAt (Rect.unit (s := S1024x512) off S1024x256.size inb).toLoadRect}
    {α : Type} {Q : α → sProp 𝕄} {k : Vec F S1024x256 .bf16 → Prog (TpuEff nD τ sig (Elt F) Λ₀ .tc) α} :
    xPts m ρ c
      ⊢ iprop((xPts m ρ c -∗ wpB c (k (xM.view.readAt (Elt F) (half h).toLoadRect (X m ρ c))) Q)
          -∗ wpB c (.op (.load xM (Rect.unit (s := S1024x512) off S1024x256.size inb).toLoadRect hv) k) Q) := by
  subst ho
  unfold xPts
  exact wp_load 𝒱₀ (c : Thread nD τ) none Set.univ (m := xM) (S := Finset.univ) (q := fullShare) (f := X m ρ c) (Finset.subset_univ _)

theorem wp_loadOut (h : Fin 2) (f : (cc0_stg1_0 : Ref sig .tc).ty.Contents (Elt F))
    {off : Fin 2 → ℕ} (ho : off = ![0, 256 * h.val]) {inb : ∀ a, off a + S1024x256.size a ≤ S1024x512.size a}
    {hv : oM.view.LoadsAt (Rect.unit (s := S1024x512) off S1024x256.size inb).toLoadRect}
    {α : Type} {Q : α → sProp 𝕄} {k : Vec F S1024x256 .f32 → Prog (TpuEff nD τ sig (Elt F) Λ₀ .tc) α} :
    outPts c h f
      ⊢ iprop((outPts c h f -∗ wpB c (k (oM.view.readAt (Elt F) (half h).toLoadRect f)) Q)
          -∗ wpB c (.op (.load oM (Rect.unit (s := S1024x512) off S1024x256.size inb).toLoadRect hv) k) Q) := by
  subst ho
  unfold outPts
  exact wp_load 𝒱₀ (c : Thread nD τ) none Set.univ (m := oM) (S := (half h).set) (q := fullShare) (f := f) (half_sub h)

/-- The store of half the result. -/
theorem wp_storeOut (h : Fin 2) (f : (cc0_stg1_0 : Ref sig .tc).ty.Contents (Elt F))
    {off : Fin 2 → ℕ} (ho : off = ![0, 256 * h.val]) {inb : ∀ a, off a + S1024x256.size a ≤ S1024x512.size a}
    {v : FVec F S1024x256 .f32} (hv : v = extf .f32 (bM.view.readAt (Elt F) (half h).toLoadRect (G m ρ) : FVec F S1024x256 .bf16) bitsLt_bf16_f32)
    {hx : (oM.access (Rect.unit (s := S1024x512) off S1024x256.size inb)).Stores Finset.univ}
    {hm : (Finset.univ : Finset (Rect.unit (s := S1024x512) off S1024x256.size inb).shape.Idx) = Finset.univ ∨ ∀ a, (Rect.unit (s := S1024x512) off S1024x256.size inb).stride a = 1}
    {α : Type} {Q : α → sProp 𝕄} {k : PUnit → Prog (TpuEff nD τ sig (Elt F) Λ₀ .tc) α} :
    outPts c h f
      ⊢ iprop((outPts c h (outG m ρ) -∗ wpB c (k ⟨⟩) Q)
          -∗ wpB c (.op (.store oM (Rect.unit (s := S1024x512) off S1024x256.size inb) v Finset.univ hx hm) k) Q) := by
  subst ho hv
  unfold outPts
  iintro H Hk
  iapply (wp_store 𝒱₀ (c : Thread nD τ) none Set.univ (m := oM) (r := half h) (Mk := Finset.univ) (out_sub_store h)) $$ H
  iintro H
  iapply Hk
  iapply (Entails.of_eq (pointsTo_congr (stored3 m ρ h f))) $$ H

end Cert.KernelProof

end
-- ==== Proof.Body.lean ====
/-
The body of the kernel on a symbolic device: what it starts from and leaves, and its run, one rule per operation in
program order.
-/
module

public import proofs.«01_k».proof.Proof.Access
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelProof

open Cert.KernelIdeal Cert.KernelIdeal.Gen

open Idealize.ShloMosaic
open Idealize.ShloMosaic.TcCoe
open Idealize.SL Idealize.SL.RA Idealize.SL.BI
open Idealize.ShloMosaic.Rounds
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Kix → ℕ) (c : Dev nD)

/-! ## The launch's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the body starts from, its scratch buffers apart; -/
def start : sProp 𝕄 := iprop((∃ K, env m ρ K) ∗ hands (F := F) c)
/-- with them; -/
def Φ₀ : sProp 𝕄 := iprop(start m ρ c ∗ (∃ f, ((c : Thread nD τ).loc cc0_scratch0) ↦{fullShare} f) ∗ ∃ f, ((c : Thread nD τ).loc cc0_scratch1) ↦{fullShare} f)
/-- and what it leaves: the scratch buffers, and every counter at zero. -/
def Φ₁ : sProp 𝕄 :=
  iprop(((∃ f, ((c : Thread nD τ).loc cc0_scratch0) ↦{fullShare} f) ∗ ∃ f, ((c : Thread nD τ).loc cc0_scratch1) ↦{fullShare} f)
    ∗ semVal (barCell c) 0 ∗ bigSep Finset.univ fun x : Fin 4 × Fin 8 × Fin 2 => zer (F := F) c x.1 x.2.2 x.2.1)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m ρ c
    | ⟨1, _⟩ => outG m ρ
  Φ t := match t with
    | ⟨0, _⟩ => Φ₀ m ρ c
    | ⟨_ + 1, _⟩ => Φ₁ (F := F) c
  q _ := fullShare
  owed t := match t with
    | ⟨0, _⟩ => owed c 0
    | ⟨_ + 1, _⟩ => 0

theorem fetch_0 (t : Fin cfg0.N) : (cfg0.win (0 : Fin 2)).fetch t = true := by rw [fin_N t]; rfl

theorem owns_whole_eq (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre : sProp 𝕄 :=
  iprop((env m ρ K ∗ hands (F := F) c ∗ (∃ f, ((c : Thread nD τ).loc cc0_scratch0) ↦{fullShare} f) ∗ ∃ f, ((c : Thread nD τ).loc cc0_scratch1) ↦{fullShare} f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost : sProp 𝕄 :=
  iprop(Φ₁ (F := F) c ∗ (dats m ρ 0 c).owesAt () t₀.succ ∗ stg c cc0_stg0_0 (X m ρ c) ∗ stg c cc0_stg1_0 (outG m ρ))

theorem run_intro (o : ℕ) (W : Waits sig Unit) : iprop(env m ρ K ∗ owes (c : Thread nD τ) (owed c o) W) ⊢ run m ρ K c o := by
  unfold run; iintro ⟨HE, HO⟩
  isplitl [HE]; · iexact HE
  iexists W; iexact HO

theorem half0 : ∀ v : Vec F S1024x256 .bf16, k0_pay1 v = v := fun v => by
  unfold k0_pay1; dsimp only; rw [shapeCast_self, shapeCast_self]
theorem half1 : ∀ v : Vec F S1024x256 .bf16, k0_pay2 v = v := fun v => by
  unfold k0_pay2; dsimp only; rw [shapeCast_self, shapeCast_self]

/-- The chains of additions are the reduced block. -/
theorem pays0 :
    k0_pay8 (k0_pay6 (k0_pay5 (k0_pay4 (k0_pay3 (ownV m ρ c 0) (slotV m ρ c 1 0)) (slotV m ρ c 2 0) (slotV m ρ c 3 0)) (slotV m ρ c 4 0)) (slotV m ρ c 5 0))
      (k0_pay7 (slotV m ρ c 6 0)) (slotV m ρ c 7 0) = redV m ρ c 0 := rfl
theorem pays1 :
    k0_pay13 (k0_pay12 (k0_pay11 (k0_pay10 (k0_pay9 (ownV m ρ c 1) (slotV m ρ c 1 1) (slotV m ρ c 2 1)) (slotV m ρ c 3 1)) (slotV m ρ c 4 1)) (slotV m ρ c 5 1)
      (slotV m ρ c 6 1)) (slotV m ρ c 7 1) = redV m ρ c 1 := rfl

set_option maxHeartbeats 4000000 in
set_option maxRecDepth 8000 in
/-- The body, run from `bodyPre` to `bodyPost`. -/
theorem sound_body (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            cc0_scratch2 cc0_scratch3 cc0_scratch4 cc0_scratch5) Kt := by
  simp only [cc0_body_eq_skeleton]; unfold cc0_body_skel
  unfold bodyPre hands
  rw [grid_eq (fun p h => seg 1 8 (tk (F := F) c p h)), grid_eq (fun p h => seg 1 8 (ats (F := F) c 0 p h))]
  iintro ⟨⟨⟨#HE, ⟨Hbt, Hbc, Hba, ⟨⟨Ht00, Ht01⟩, ⟨Ht10, Ht11⟩, ⟨Ht20, Ht21⟩, ⟨Ht30, Ht31⟩⟩, ⟨Hc10, Hc11⟩, ⟨Hc30, Hc31⟩, Hz,
      ⟨⟨Ha00, Ha01⟩, ⟨Ha10, Ha11⟩, ⟨Ha20, Ha21⟩, ⟨Ha30, Ha31⟩⟩⟩, ⟨%b0, Hb⟩, ⟨%r0, Hr⟩⟩,
    Ho, ⟨%d0, %g0, %hg0, Hx⟩, ⟨%d1, %g1, %hg1, Hout⟩⟩, Hk⟩
  have hx : g0 = X m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owed c 0 from rfl]
  ihave Hx := (show (((c : Thread nD τ).loc cc0_stg0_0) ↦{fullShare} (X m ρ c) : sProp 𝕄) ⊢ xPts m ρ c from BI.Entails.refl _) $$ Hx
  ihave HR := (run_intro m ρ K c 0 W) $$ [HO]
  · isplitr; · iexact HE
    iexact HO
  -- the barrier: the device's slots to the devices that will fill them, and theirs to it
  ihave Hr := (rs_split c r0) $$ Hr
  icases Hr with ⟨Hz0, Hr⟩
  ihave H := (signals_intro m ρ K c) $$ [HR Hr Hbt]
  · isplitl [HR]; · iexact HR
    isplitl [Hr]; · iexact Hr
    iexact Hbt
  rw [wp_bind, k0_part1_eq_skeleton]; unfold k0_part1_skel
  simp only [semSignalWord, semWaitWord, Prog.lift, Prog.bind_op, Prog.bind_ret, Prog.pure_eq_ret, wp_deviceId]
  iapply (wp_sig m ρ K c 0 (by decide) (devs_eq c 0)) $$ H; iintro H
  iapply (wp_sig m ρ K c 1 (by decide) (devs_eq c 1)) $$ H; iintro H
  rw [wp_ret]; imodintro; try dsimp only
  rw [wp_bind, k0_part2_eq_skeleton]; unfold k0_part2_skel
  simp only [semSignalWord, semWaitWord, Prog.lift, Prog.bind_op, Prog.bind_ret, Prog.pure_eq_ret, wp_deviceId]
  iapply (wp_sig m ρ K c 2 (by decide) (devs_eq c 2)) $$ H; iintro H
  iapply (wp_sig m ρ K c 3 (by decide) (devs_eq c 3)) $$ H; iintro H
  rw [wp_ret]; imodintro; try dsimp only
  rw [wp_bind, k0_part3_eq_skeleton]; unfold k0_part3_skel
  simp only [semSignalWord, semWaitWord, Prog.lift, Prog.bind_op, Prog.bind_ret, Prog.pure_eq_ret, wp_deviceId]
  iapply (wp_sig m ρ K c 4 (by decide) (devs_eq c 4)) $$ H; iintro H
  iapply (wp_sig m ρ K c 5 (by decide) (devs_eq c 5)) $$ H; iintro H
  iapply (wp_sig m ρ K c 6 (by decide) (devs_eq c 6)) $$ H; iintro H
  ihave H := (signals_elim m ρ K c) $$ H
  iapply (wp_bar m ρ K c) $$ [H Hbc Hba]
  · isplitl [H]; · iexact H
    isplitl [Hbc]; · iexact Hbc
    iexact Hba
  iintro ⟨HR, Hba, H⟩
  ihave H := (Entails.of_eq (barPay_halves c)) $$ H
  icases H with ⟨Hsl0, Hsl1⟩
  ihave Hb := (Entails.of_eq (xb_halves c fullShare b0)) $$ Hb
  icases Hb with ⟨Hb0, Hb1⟩
  rw [wp_ret]; imodintro; try dsimp only
  rw [wp_bind, k0_part4_eq_skeleton]; unfold k0_part4_skel
  simp only [semSignalWord, semWaitWord, Prog.lift, Prog.bind_op, Prog.bind_ret, Prog.pure_eq_ret, wp_deviceId]
  -- the first phase: the device's rows to the devices that will reduce them, one half after the other
  iapply (wp_loadX m ρ c 0 rfl) $$ Hx; iintro Hx
  iapply (wp_loadHalf c 0 fullShare _ rfl) $$ Hb0; iintro Hb0
  iapply (wp_storeHalf m ρ c 0 _ rfl (half0 _)) $$ Hb0; iintro Hb0
  ihave Hb0 := (Entails.of_eq (half_fwd c 0 fullShare (X m ρ c))) $$ Hb0
  icases Hb0 with ⟨Hown0, Hb0⟩
  ihave H := (sends1_intro m ρ K c 0 7) $$ [HR Hb0 Hsl0 Ht00 Ht10]
  · isplitl [HR]; · iexact HR
    isplitl [Hb0]; · iexact Hb0
    isplitl [Hsl0]; · iexact Hsl0
    isplitl [Ht00]; · iexact Ht00
    iexact Ht10
  iapply (wp_send1 m ρ K c 0 0 7 (by decide) rfl (devs_eq c 7) (src1 c 0) rfl (sem_send1 1 0 _) (sem_recv1 1 0 _)) $$ H; iintro H
  rw [wp_ret]; imodintro; try dsimp only
  rw [wp_bind, k0_part5_eq_skeleton]; unfold k0_part5_skel
  simp only [semSignalWord, semWaitWord, Prog.lift, Prog.bind_op, Prog.bind_ret, Prog.pure_eq_ret, wp_deviceId]
  iapply (wp_send1 m ρ K c 0 1 8 (by decide) rfl (devs_eq c 8) (src1 c 1) rfl (sem_send1 2 0 _) (sem_recv1 2 0 _)) $$ H; iintro H
  rw [wp_ret]; imodintro; try dsimp only
  rw [wp_bind, k0_part6_eq_skeleton]; unfold k0_part6_skel
  simp only [semSignalWord, semWaitWord, Prog.lift, Prog.bind_op, Prog.bind_ret, Prog.pure_eq_ret, wp_deviceId]
  iapply (wp_send1 m ρ K c 0 2 9 (by decide) rfl (devs_eq c 9) (src1 c 2) rfl (sem_send1 3 0 _) (sem_recv1 3 0 _)) $$ H; iintro H
  iapply (wp_send1 m ρ K c 0 3 10 (by decide) rfl (devs_eq c 10) (src1 c 3) rfl (sem_send1 4 0 _) (sem_recv1 4 0 _)) $$ H; iintro H
  rw [wp_ret]; imodintro; try dsimp only
  rw [wp_bind, k0_part7_eq_skeleton]; unfold k0_part7_skel
  simp only [semSignalWord, semWaitWord, Prog.lift, Prog.bind_op, Prog.bind_ret, Prog.pure_eq_ret, wp_deviceId]
  iapply (wp_send1 m ρ K c 0 4 11 (by decide) rfl (devs_eq c 11) (src1 c 4) rfl (sem_send1 5 0 _) (sem_recv1 5 0 _)) $$ H; iintro H
  rw [wp_ret]; imodintro; try dsimp only
  rw [wp_bind, k0_part8_eq_skeleton]; unfold k0_part8_skel
  simp only [semSignalWord, semWaitWord, Prog.lift, Prog.bind_op, Prog.bind_ret, Prog.pure_eq_ret, wp_deviceId]
  iapply (wp_send1 m ρ K c 0 5 12 (by decide) rfl (devs_eq c 12) (src1 c 5) rfl (sem_send1 6 0 _) (sem_recv1 6 0 _)) $$ H; iintro H
  iapply (wp_send1 m ρ K c 0 6 13 (by decide) rfl (devs_eq c 13) (src1 c 6) rfl (sem_send1 7 0 _) (sem_recv1 7 0 _)) $$ H; iintro H
  ihave H := (sends1_elim m ρ K c 0 14) $$ H
  icases H with ⟨HR, Hc00⟩
  iapply (wp_loadX m ρ c 1 rfl) $$ Hx; iintro Hx
  iapply (wp_loadHalf c 1 fullShare _ rfl) $$ Hb1; iintro Hb1
  iapply (wp_storeHalf m ρ c 1 _ rfl (half1 _)) $$ Hb1; iintro Hb1
  ihave Hb1 := (Entails.of_eq (half_fwd c 1 fullShare (X m ρ c))) $$ Hb1
  icases Hb1 with ⟨Hown1, Hb1⟩
  ihave H := (sends1_intro m ρ K c 1 14) $$ [HR Hb1 Hsl1 Ht01 Ht11]
  · isplitl [HR]; · iexact HR
    isplitl [Hb1]; · iexact Hb1
    isplitl [Hsl1]; · iexact Hsl1
    isplitl [Ht01]; · iexact Ht01
    iexact Ht11
  unfold wpB
  rw [wp_ret]; imodintro; try dsimp only
  rw [wp_bind, k0_part9_eq_skeleton]; unfold k0_part9_skel
  simp only [semSignalWord, semWaitWord, Prog.lift, Prog.bind_op, Prog.bind_ret, Prog.pure_eq_ret, wp_deviceId]
  iapply (wp_send1 m ρ K c 1 0 14 (by decide) rfl (devs_eq c 14) (src2 c 0) rfl (sem_send1 1 1 _) (sem_recv1 1 1 _)) $$ H; iintro H
  rw [wp_ret]; imodintro; try dsimp only
  rw [wp_bind, k0_part10_eq_skeleton]; unfold k0_part10_skel
  simp only [semSignalWord, semWaitWord, Prog.lift, Prog.bind_op, Prog.bind_ret, Prog.pure_eq_ret, wp_deviceId]
  iapply (wp_send1 m ρ K c 1 1 15 (by decide) rfl (devs_eq c 15) (src2 c 1) rfl (sem_send1 2 1 _) (sem_recv1 2 1 _)) $$ H; iintro H
  iapply (wp_send1 m ρ K c 1 2 16 (by decide) rfl (devs_eq c 16) (src2 c 2) rfl (sem_send1 3 1 _) (sem_recv1 3 1 _)) $$ H; iintro H
  rw [wp_ret]; imodintro; try dsimp only
  rw [wp_bind, k0_part11_eq_skeleton]; unfold k0_part11_skel
  simp only [semSignalWord, semWaitWord, Prog.lift, Prog.bind_op, Prog.bind_ret, Prog.pure_eq_ret, wp_deviceId]
  iapply (wp_send1 m ρ K c 1 3 17 (by decide) rfl (devs_eq c 17) (src2 c 3) rfl (sem_send1 4 1 _) (sem_recv1 4 1 _)) $$ H; iintro H
  rw [wp_ret]; imodintro; try dsimp only
  rw [wp_bind, k0_part12_eq_skeleton]; unfold k0_part12_skel
  simp only [semSignalWord, semWaitWord, Prog.lift, Prog.bind_op, Prog.bind_ret, Prog.pure_eq_ret, wp_deviceId]
  iapply (wp_send1 m ρ K c 1 4 18 (by decide) rfl (devs_eq c 18) (src2 c 4) rfl (sem_send1 5 1 _) (sem_recv1 5 1 _)) $$ H; iintro H
  iapply (wp_send1 m ρ K c 1 5 19 (by decide) rfl (devs_eq c 19) (src2 c 5) rfl (sem_send1 6 1 _) (sem_recv1 6 1 _)) $$ H; iintro H
  rw [wp_ret]; imodintro; try dsimp only
  rw [wp_bind, k0_part13_eq_skeleton]; unfold k0_part13_skel
  simp only [semSignalWord, semWaitWord, Prog.lift, Prog.bind_op, Prog.bind_ret, Prog.pure_eq_ret, wp_deviceId]
  iapply (wp_send1 m ρ K c 1 6 20 (by decide) rfl (devs_eq c 20) (src2 c 6) rfl (sem_send1 7 1 _) (sem_recv1 7 1 _)) $$ H; iintro H
  ihave H := (sends1_elim m ρ K c 1 21) $$ H
  icases H with ⟨HR, Hc01⟩
  -- the reduction of the device's own rows, and the second phase: the result to every other device
  iapply (wp_loadOwn c 0 fullShare (X m ρ c) (k0_off3_eq c)) $$ Hown0; iintro Hown0
  unfold wpB
  rw [wp_ret]; imodintro; try dsimp only
  rw [wp_bind, k0_part14_eq_skeleton]; unfold k0_part14_skel
  simp only [semSignalWord, semWaitWord, Prog.lift, Prog.bind_op, Prog.bind_ret, Prog.pure_eq_ret, wp_deviceId]
  ihave H := (waits_intro m ρ K c 1 0 21) $$ [HR Hc10 Ha10]
  · isplitl [HR]; · iexact HR
    isplitl [Hc10]; · iexact Hc10
    iexact Ha10
  iapply (wp_dwait m ρ K c 1 0 0 21 (by decide) (.inl (may1 _ _ (by decide))) credit_slot (sem_recv1 1 0 _)) $$ H; iintro H
  iapply (wp_slot m ρ K c 0 0 21 (by decide) rfl) $$ H; iintro H
  rw [wp_ret]; imodintro; try dsimp only
  rw [wp_bind, k0_part15_eq_skeleton]; unfold k0_part15_skel
  simp only [semSignalWord, semWaitWord, Prog.lift, Prog.bind_op, Prog.bind_ret, Prog.pure_eq_ret, wp_deviceId]
  iapply (wp_dwait m ρ K c 1 0 1 21 (by decide) (.inl (may1 _ _ (by decide))) credit_slot (sem_recv1 2 0 _)) $$ H; iintro H
  iapply (wp_slot m ρ K c 0 1 21 (by decide) rfl) $$ H; iintro H
  iapply (wp_dwait m ρ K c 1 0 2 21 (by decide) (.inl (may1 _ _ (by decide))) credit_slot (sem_recv1 3 0 _)) $$ H; iintro H
  iapply (wp_slot m ρ K c 0 2 21 (by decide) rfl) $$ H; iintro H
  rw [wp_ret]; imodintro; try dsimp only
  rw [wp_bind, k0_part16_eq_skeleton]; unfold k0_part16_skel
  simp only [semSignalWord, semWaitWord, Prog.lift, Prog.bind_op, Prog.bind_ret, Prog.pure_eq_ret, wp_deviceId]
  iapply (wp_dwait m ρ K c 1 0 3 21 (by decide) (.inl (may1 _ _ (by decide))) credit_slot (sem_recv1 4 0 _)) $$ H; iintro H
  iapply (wp_slot m ρ K c 0 3 21 (by decide) rfl) $$ H; iintro H
  rw [wp_ret]; imodintro; try dsimp only
  rw [wp_bind, k0_part17_eq_skeleton]; unfold k0_part17_skel
  simp only [semSignalWord, semWaitWord, Prog.lift, Prog.bind_op, Prog.bind_ret, Prog.pure_eq_ret, wp_deviceId]
  iapply (wp_dwait m ρ K c 1 0 4 21 (by decide) (.inl (may1 _ _ (by decide))) credit_slot (sem_recv1 5 0 _)) $$ H; iintro H
  iapply (wp_slot m ρ K c 0 4 21 (by decide) rfl) $$ H; iintro H
  iapply (wp_dwait m ρ K c 1 0 5 21 (by decide) (.inl (may1 _ _ (by decide))) credit_slot (sem_recv1 6 0 _)) $$ H; iintro H
  iapply (wp_slot m ρ K c 0 5 21 (by decide) rfl) $$ H; iintro H
  rw [wp_ret]; imodintro; try dsimp only
  rw [wp_bind, k0_part18_eq_skeleton]; unfold k0_part18_skel
  simp only [semSignalWord, semWaitWord, Prog.lift, Prog.bind_op, Prog.bind_ret, Prog.pure_eq_ret, wp_deviceId]
  iapply (wp_dwait m ρ K c 1 0 6 21 (by decide) (.inl (may1 _ _ (by decide))) credit_slot (sem_recv1 7 0 _)) $$ H; iintro H
  iapply (wp_slot m ρ K c 0 6 21 (by decide) rfl) $$ H; iintro H
  ihave H := (waits_elim m ρ K c 1 0 21) $$ H
  icases H with ⟨HR, Ha10, Hp10⟩
  iapply (wp_loadOwn c 0 fullShare (X m ρ c) (k0_off3_eq c)) $$ Hown0; iintro Hown0
  iapply (wp_storeOwn m ρ c 0 (X m ρ c) (k0_off3_eq c) (pays0 m ρ c)) $$ Hown0; iintro Hown0
  ihave Hp10 := (Entails.of_eq (recv1_all m ρ c 0)) $$ Hp10
  icases Hp10 with ⟨Hrs0, Hrow0⟩
  ihave H := (sends2_intro m ρ K c 0 21) $$ [HR Hown0 Hrow0 Ht20 Ht30]
  · isplitl [HR]; · iexact HR
    isplitl [Hown0]; · iexact Hown0
    isplitl [Hrow0]; · iexact Hrow0
    isplitl [Ht20]; · iexact Ht20
    iexact Ht30
  icases H with ⟨H, Hkeep0, Hzero0⟩
  unfold wpB
  rw [wp_ret]; imodintro; try dsimp only
  rw [wp_bind, k0_part19_eq_skeleton]; unfold k0_part19_skel
  simp only [semSignalWord, semWaitWord, Prog.lift, Prog.bind_op, Prog.bind_ret, Prog.pure_eq_ret, wp_deviceId]
  iapply (wp_send2 m ρ K c 0 0 21 (by decide) rfl (devs_eq c 21) (own4 c) (own4 c) (sem_send2 1 0 _) (sem_recv2 1 0 _)) $$ H; iintro H
  rw [wp_ret]; imodintro; try dsimp only
  rw [wp_bind, k0_part20_eq_skeleton]; unfold k0_part20_skel
  simp only [semSignalWord, semWaitWord, Prog.lift, Prog.bind_op, Prog.bind_ret, Prog.pure_eq_ret, wp_deviceId]
  iapply (wp_send2 m ρ K c 0 1 22 (by decide) rfl (devs_eq c 22) (own4 c) (own4 c) (sem_send2 2 0 _) (sem_recv2 2 0 _)) $$ H; iintro H
  iapply (wp_send2 m ρ K c 0 2 23 (by decide) rfl (devs_eq c 23) (own4 c) (own4 c) (sem_send2 3 0 _) (sem_recv2 3 0 _)) $$ H; iintro H
  rw [wp_ret]; imodintro; try dsimp only
  rw [wp_bind, k0_part21_eq_skeleton]; unfold k0_part21_skel
  simp only [semSignalWord, semWaitWord, Prog.lift, Prog.bind_op, Prog.bind_ret, Prog.pure_eq_ret, wp_deviceId]
  iapply (wp_send2 m ρ K c 0 3 24 (by decide) rfl (devs_eq c 24) (own4 c) (own4 c) (sem_send2 4 0 _) (sem_recv2 4 0 _)) $$ H; iintro H
  rw [wp_ret]; imodintro; try dsimp only
  rw [wp_bind, k0_part22_eq_skeleton]; unfold k0_part22_skel
  simp only [semSignalWord, semWaitWord, Prog.lift, Prog.bind_op, Prog.bind_ret, Prog.pure_eq_ret, wp_deviceId]
  iapply (wp_send2 m ρ K c 0 4 25 (by decide) rfl (devs_eq c 25) (own4 c) (own4 c) (sem_send2 5 0 _) (sem_recv2 5 0 _)) $$ H; iintro H
  iapply (wp_send2 m ρ K c 0 5 26 (by decide) rfl (devs_eq c 26) (own4 c) (own4 c) (sem_send2 6 0 _) (sem_recv2 6 0 _)) $$ H; iintro H
  rw [wp_ret]; imodintro; try dsimp only
  rw [wp_bind, k0_part23_eq_skeleton]; unfold k0_part23_skel
  simp only [semSignalWord, semWaitWord, Prog.lift, Prog.bind_op, Prog.bind_ret, Prog.pure_eq_ret, wp_deviceId]
  iapply (wp_send2 m ρ K c 0 6 27 (by decide) rfl (devs_eq c 27) (own4 c) (own4 c) (sem_send2 7 0 _) (sem_recv2 7 0 _)) $$ H; iintro H
  ihave H := (sends2_elim m ρ K c 0 28) $$ H
  icases H with ⟨HR, Hc20⟩
  iapply (wp_loadOwn c 1 fullShare (X m ρ c) (k0_off5_eq c)) $$ Hown1; iintro Hown1
  unfold wpB
  rw [wp_ret]; imodintro; try dsimp only
  rw [wp_bind, k0_part24_eq_skeleton]; unfold k0_part24_skel
  simp only [semSignalWord, semWaitWord, Prog.lift, Prog.bind_op, Prog.bind_ret, Prog.pure_eq_ret, wp_deviceId]
  ihave H := (waits_intro m ρ K c 1 1 28) $$ [HR Hc11 Ha11]
  · isplitl [HR]; · iexact HR
    isplitl [Hc11]; · iexact Hc11
    iexact Ha11
  iapply (wp_dwait m ρ K c 1 1 0 28 (by decide) (.inl (may1 _ _ (by decide))) credit_slot (sem_recv1 1 1 _)) $$ H; iintro H
  iapply (wp_slot m ρ K c 1 0 28 (by decide) rfl) $$ H; iintro H
  iapply (wp_dwait m ρ K c 1 1 1 28 (by decide) (.inl (may1 _ _ (by decide))) credit_slot (sem_recv1 2 1 _)) $$ H; iintro H
  iapply (wp_slot m ρ K c 1 1 28 (by decide) rfl) $$ H; iintro H
  rw [wp_ret]; imodintro; try dsimp only
  rw [wp_bind, k0_part25_eq_skeleton]; unfold k0_part25_skel
  simp only [semSignalWord, semWaitWord, Prog.lift, Prog.bind_op, Prog.bind_ret, Prog.pure_eq_ret, wp_deviceId]
  iapply (wp_dwait m ρ K c 1 1 2 28 (by decide) (.inl (may1 _ _ (by decide))) credit_slot (sem_recv1 3 1 _)) $$ H; iintro H
  iapply (wp_slot m ρ K c 1 2 28 (by decide) rfl) $$ H; iintro H
  rw [wp_ret]; imodintro; try dsimp only
  rw [wp_bind, k0_part26_eq_skeleton]; unfold k0_part26_skel
  simp only [semSignalWord, semWaitWord, Prog.lift, Prog.bind_op, Prog.bind_ret, Prog.pure_eq_ret, wp_deviceId]
  iapply (wp_dwait m ρ K c 1 1 3 28 (by decide) (.inl (may1 _ _ (by decide))) credit_slot (sem_recv1 4 1 _)) $$ H; iintro H
  iapply (wp_slot m ρ K c 1 3 28 (by decide) rfl) $$ H; iintro H
  iapply (wp_dwait m ρ K c 1 1 4 28 (by decide) (.inl (may1 _ _ (by decide))) credit_slot (sem_recv1 5 1 _)) $$ H; iintro H
  rw [wp_ret]; imodintro; try dsimp only
  rw [wp_bind, k0_part27_eq_skeleton]; unfold k0_part27_skel
  simp only [semSignalWord, semWaitWord, Prog.lift, Prog.bind_op, Prog.bind_ret, Prog.pure_eq_ret, wp_deviceId]
  iapply (wp_slot m ρ K c 1 4 28 (by decide) rfl) $$ H; iintro H
  iapply (wp_dwait m ρ K c 1 1 5 28 (by decide) (.inl (may1 _ _ (by decide))) credit_slot (sem_recv1 6 1 _)) $$ H; iintro H
  iapply (wp_slot m ρ K c 1 5 28 (by decide) rfl) $$ H; iintro H
  rw [wp_ret]; imodintro; try dsimp only
  rw [wp_bind, k0_part28_eq_skeleton]; unfold k0_part28_skel
  simp only [semSignalWord, semWaitWord, Prog.lift, Prog.bind_op, Prog.bind_ret, Prog.pure_eq_ret, wp_deviceId]
  iapply (wp_dwait m ρ K c 1 1 6 28 (by decide) (.inl (may1 _ _ (by decide))) credit_slot (sem_recv1 7 1 _)) $$ H; iintro H
  iapply (wp_slot m ρ K c 1 6 28 (by decide) rfl) $$ H; iintro H
  ihave H := (waits_elim m ρ K c 1 1 28) $$ H
  icases H with ⟨HR, Ha11, Hp11⟩
  iapply (wp_loadOwn c 1 fullShare (X m ρ c) (k0_off5_eq c)) $$ Hown1; iintro Hown1
  iapply (wp_storeOwn m ρ c 1 (X m ρ c) (k0_off5_eq c) (pays1 m ρ c)) $$ Hown1; iintro Hown1
  ihave Hp11 := (Entails.of_eq (recv1_all m ρ c 1)) $$ Hp11
  icases Hp11 with ⟨Hrs1, Hrow1⟩
  ihave H := (sends2_intro m ρ K c 1 28) $$ [HR Hown1 Hrow1 Ht21 Ht31]
  · isplitl [HR]; · iexact HR
    isplitl [Hown1]; · iexact Hown1
    isplitl [Hrow1]; · iexact Hrow1
    isplitl [Ht21]; · iexact Ht21
    iexact Ht31
  icases H with ⟨H, Hkeep1, Hzero1⟩
  unfold wpB
  rw [wp_ret]; imodintro; try dsimp only
  rw [wp_bind, k0_part29_eq_skeleton]; unfold k0_part29_skel
  simp only [semSignalWord, semWaitWord, Prog.lift, Prog.bind_op, Prog.bind_ret, Prog.pure_eq_ret, wp_deviceId]
  iapply (wp_send2 m ρ K c 1 0 28 (by decide) rfl (devs_eq c 28) (own6 c) (own6 c) (sem_send2 1 1 _) (sem_recv2 1 1 _)) $$ H; iintro H
  iapply (wp_send2 m ρ K c 1 1 29 (by decide) rfl (devs_eq c 29) (own6 c) (own6 c) (sem_send2 2 1 _) (sem_recv2 2 1 _)) $$ H; iintro H
  rw [wp_ret]; imodintro; try dsimp only
  rw [wp_bind, k0_part30_eq_skeleton]; unfold k0_part30_skel
  simp only [semSignalWord, semWaitWord, Prog.lift, Prog.bind_op, Prog.bind_ret, Prog.pure_eq_ret, wp_deviceId]
  iapply (wp_send2 m ρ K c 1 2 30 (by decide) rfl (devs_eq c 30) (own6 c) (own6 c) (sem_send2 3 1 _) (sem_recv2 3 1 _)) $$ H; iintro H
  rw [wp_ret]; imodintro; try dsimp only
  rw [wp_bind, k0_part31_eq_skeleton]; unfold k0_part31_skel
  simp only [semSignalWord, semWaitWord, Prog.lift, Prog.bind_op, Prog.bind_ret, Prog.pure_eq_ret, wp_deviceId]
  iapply (wp_send2 m ρ K c 1 3 31 (by decide) rfl (devs_eq c 31) (own6 c) (own6 c) (sem_send2 4 1 _) (sem_recv2 4 1 _)) $$ H; iintro H
  iapply (wp_send2 m ρ K c 1 4 32 (by decide) rfl (devs_eq c 32) (own6 c) (own6 c) (sem_send2 5 1 _) (sem_recv2 5 1 _)) $$ H; iintro H
  rw [wp_ret]; imodintro; try dsimp only
  rw [wp_bind, k0_part32_eq_skeleton]; unfold k0_part32_skel
  simp only [semSignalWord, semWaitWord, Prog.lift, Prog.bind_op, Prog.bind_ret, Prog.pure_eq_ret, wp_deviceId]
  iapply (wp_send2 m ρ K c 1 5 33 (by decide) rfl (devs_eq c 33) (own6 c) (own6 c) (sem_send2 6 1 _) (sem_recv2 6 1 _)) $$ H; iintro H
  rw [wp_ret]; imodintro; try dsimp only
  rw [wp_bind, k0_part33_eq_skeleton]; unfold k0_part33_skel
  simp only [semSignalWord, semWaitWord, Prog.lift, Prog.bind_op, Prog.bind_ret, Prog.pure_eq_ret, wp_deviceId]
  iapply (wp_send2 m ρ K c 1 6 34 (by decide) rfl (devs_eq c 34) (own6 c) (own6 c) (sem_send2 7 1 _) (sem_recv2 7 1 _)) $$ H; iintro H
  ihave H := (sends2_elim m ρ K c 1 35) $$ H
  icases H with ⟨HR, Hc21⟩
  -- every block arrived: the result's halves
  ihave H := (waits_intro m ρ K c 3 0 35) $$ [HR Hc30 Ha30]
  · isplitl [HR]; · iexact HR
    isplitl [Hc30]; · iexact Hc30
    iexact Ha30
  iapply (wp_dwait m ρ K c 3 0 0 35 (by decide) (.inr rfl) credit_blk (sem_recv2 1 0 _)) $$ H; iintro H
  rw [wp_ret]; imodintro; try dsimp only
  rw [wp_bind, k0_part34_eq_skeleton]; unfold k0_part34_skel
  simp only [semSignalWord, semWaitWord, Prog.lift, Prog.bind_op, Prog.bind_ret, Prog.pure_eq_ret, wp_deviceId]
  iapply (wp_dwait m ρ K c 3 0 1 35 (by decide) (.inr rfl) credit_blk (sem_recv2 2 0 _)) $$ H; iintro H
  iapply (wp_dwait m ρ K c 3 0 2 35 (by decide) (.inr rfl) credit_blk (sem_recv2 3 0 _)) $$ H; iintro H
  rw [wp_ret]; imodintro; try dsimp only
  rw [wp_bind, k0_part35_eq_skeleton]; unfold k0_part35_skel
  simp only [semSignalWord, semWaitWord, Prog.lift, Prog.bind_op, Prog.bind_ret, Prog.pure_eq_ret, wp_deviceId]
  iapply (wp_dwait m ρ K c 3 0 3 35 (by decide) (.inr rfl) credit_blk (sem_recv2 4 0 _)) $$ H; iintro H
  rw [wp_ret]; imodintro; try dsimp only
  rw [wp_bind, k0_part36_eq_skeleton]; unfold k0_part36_skel
  simp only [semSignalWord, semWaitWord, Prog.lift, Prog.bind_op, Prog.bind_ret, Prog.pure_eq_ret, wp_deviceId]
  iapply (wp_dwait m ρ K c 3 0 4 35 (by decide) (.inr rfl) credit_blk (sem_recv2 5 0 _)) $$ H; iintro H
  iapply (wp_dwait m ρ K c 3 0 5 35 (by decide) (.inr rfl) credit_blk (sem_recv2 6 0 _)) $$ H; iintro H
  rw [wp_ret]; imodintro; try dsimp only
  rw [wp_bind, k0_part37_eq_skeleton]; unfold k0_part37_skel
  simp only [semSignalWord, semWaitWord, Prog.lift, Prog.bind_op, Prog.bind_ret, Prog.pure_eq_ret, wp_deviceId]
  iapply (wp_dwait m ρ K c 3 0 6 35 (by decide) (.inr rfl) credit_blk (sem_recv2 7 0 _)) $$ H; iintro H
  ihave H := (waits_elim m ρ K c 3 0 35) $$ H
  icases H with ⟨HR, Ha30, Hp30⟩
  ihave Hout := (Entails.of_eq (out_halves c g1)) $$ Hout
  icases Hout with ⟨Ho0, Ho1⟩
  ihave Hg0 := (gathered m ρ c 0) $$ [Hkeep0 Hp30]
  · isplitl [Hkeep0]; · iexact Hkeep0
    iexact Hp30
  icases Hg0 with ⟨Hg0, Hl0⟩
  iapply (wp_loadHalf c 0 keep _ rfl) $$ Hg0; iintro Hg0
  iapply (wp_loadOut c 0 _ rfl) $$ Ho0; iintro Ho0
  iapply (wp_storeOut m ρ c 0 _ rfl rfl) $$ Ho0; iintro Ho0
  unfold wpB
  rw [wp_ret]; imodintro; try dsimp only
  rw [wp_bind, k0_part38_eq_skeleton]; unfold k0_part38_skel
  simp only [semSignalWord, semWaitWord, Prog.lift, Prog.bind_op, Prog.bind_ret, Prog.pure_eq_ret, wp_deviceId]
  ihave H := (waits_intro m ρ K c 3 1 35) $$ [HR Hc31 Ha31]
  · isplitl [HR]; · iexact HR
    isplitl [Hc31]; · iexact Hc31
    iexact Ha31
  iapply (wp_dwait m ρ K c 3 1 0 35 (by decide) (.inr rfl) credit_blk (sem_recv2 1 1 _)) $$ H; iintro H
  iapply (wp_dwait m ρ K c 3 1 1 35 (by decide) (.inr rfl) credit_blk (sem_recv2 2 1 _)) $$ H; iintro H
  rw [wp_ret]; imodintro; try dsimp only
  rw [wp_bind, k0_part39_eq_skeleton]; unfold k0_part39_skel
  simp only [semSignalWord, semWaitWord, Prog.lift, Prog.bind_op, Prog.bind_ret, Prog.pure_eq_ret, wp_deviceId]
  iapply (wp_dwait m ρ K c 3 1 2 35 (by decide) (.inr rfl) credit_blk (sem_recv2 3 1 _)) $$ H; iintro H
  iapply (wp_dwait m ρ K c 3 1 3 35 (by decide) (.inr rfl) credit_blk (sem_recv2 4 1 _)) $$ H; iintro H
  rw [wp_ret]; imodintro; try dsimp only
  rw [wp_bind, k0_part40_eq_skeleton]; unfold k0_part40_skel
  simp only [semSignalWord, semWaitWord, Prog.lift, Prog.bind_op, Prog.bind_ret, Prog.pure_eq_ret, wp_deviceId]
  iapply (wp_dwait m ρ K c 3 1 4 35 (by decide) (.inr rfl) credit_blk (sem_recv2 5 1 _)) $$ H; iintro H
  rw [wp_ret]; imodintro; try dsimp only
  rw [wp_bind, k0_part41_eq_skeleton]; unfold k0_part41_skel
  simp only [semSignalWord, semWaitWord, Prog.lift, Prog.bind_op, Prog.bind_ret, Prog.pure_eq_ret, wp_deviceId]
  iapply (wp_dwait m ρ K c 3 1 5 35 (by decide) (.inr rfl) credit_blk (sem_recv2 6 1 _)) $$ H; iintro H
  iapply (wp_dwait m ρ K c 3 1 6 35 (by decide) (.inr rfl) credit_blk (sem_recv2 7 1 _)) $$ H; iintro H
  ihave H := (waits_elim m ρ K c 3 1 35) $$ H
  icases H with ⟨HR, Ha31, Hp31⟩
  ihave Hg1 := (gathered m ρ c 1) $$ [Hkeep1 Hp31]
  · isplitl [Hkeep1]; · iexact Hkeep1
    iexact Hp31
  icases Hg1 with ⟨Hg1, Hl1⟩
  iapply (wp_loadHalf c 1 keep _ rfl) $$ Hg1; iintro Hg1
  iapply (wp_loadOut c 1 _ rfl) $$ Ho1; iintro Ho1
  iapply (wp_storeOut m ρ c 1 _ rfl rfl) $$ Ho1; iintro Ho1
  unfold wpB
  rw [wp_ret]; imodintro; try dsimp only
  rw [wp_bind, k0_part42_eq_skeleton]; unfold k0_part42_skel
  simp only [semSignalWord, semWaitWord, Prog.lift, Prog.bind_op, Prog.bind_ret, Prog.pure_eq_ret, wp_deviceId]
  -- the sends' own counters
  ihave H := (waits_intro m ρ K c 0 0 35) $$ [HR Hc00 Ha00]
  · isplitl [HR]; · iexact HR
    isplitl [Hc00]; · iexact Hc00
    iexact Ha00
  iapply (wp_dwait m ρ K c 0 0 0 35 (by decide) (.inr rfl) credit_blk (sem_send1 1 0 _)) $$ H; iintro H
  iapply (wp_dwait m ρ K c 0 0 1 35 (by decide) (.inr rfl) credit_blk (sem_send1 2 0 _)) $$ H; iintro H
  iapply (wp_dwait m ρ K c 0 0 2 35 (by decide) (.inr rfl) credit_blk (sem_send1 3 0 _)) $$ H; iintro H
  iapply (wp_dwait m ρ K c 0 0 3 35 (by decide) (.inr rfl) credit_blk (sem_send1 4 0 _)) $$ H; iintro H
  rw [wp_ret]; imodintro; try dsimp only
  rw [wp_bind, k0_part43_eq_skeleton]; unfold k0_part43_skel
  simp only [semSignalWord, semWaitWord, Prog.lift, Prog.bind_op, Prog.bind_ret, Prog.pure_eq_ret, wp_deviceId]
  iapply (wp_dwait m ρ K c 0 0 4 35 (by decide) (.inr rfl) credit_blk (sem_send1 5 0 _)) $$ H; iintro H
  iapply (wp_dwait m ρ K c 0 0 5 35 (by decide) (.inr rfl) credit_blk (sem_send1 6 0 _)) $$ H; iintro H
  iapply (wp_dwait m ρ K c 0 0 6 35 (by decide) (.inr rfl) credit_blk (sem_send1 7 0 _)) $$ H; iintro H
  ihave H := (waits_elim m ρ K c 0 0 35) $$ H
  icases H with ⟨HR, Ha00, Hp00⟩
  ihave H := (waits_intro m ρ K c 0 1 35) $$ [HR Hc01 Ha01]
  · isplitl [HR]; · iexact HR
    isplitl [Hc01]; · iexact Hc01
    iexact Ha01
  iapply (wp_dwait m ρ K c 0 1 0 35 (by decide) (.inr rfl) credit_blk (sem_send1 1 1 _)) $$ H; iintro H
  rw [wp_ret]; imodintro; try dsimp only
  rw [wp_bind, k0_part44_eq_skeleton]; unfold k0_part44_skel
  simp only [semSignalWord, semWaitWord, Prog.lift, Prog.bind_op, Prog.bind_ret, Prog.pure_eq_ret, wp_deviceId]
  iapply (wp_dwait m ρ K c 0 1 1 35 (by decide) (.inr rfl) credit_blk (sem_send1 2 1 _)) $$ H; iintro H
  iapply (wp_dwait m ρ K c 0 1 2 35 (by decide) (.inr rfl) credit_blk (sem_send1 3 1 _)) $$ H; iintro H
  iapply (wp_dwait m ρ K c 0 1 3 35 (by decide) (.inr rfl) credit_blk (sem_send1 4 1 _)) $$ H; iintro H
  iapply (wp_dwait m ρ K c 0 1 4 35 (by decide) (.inr rfl) credit_blk (sem_send1 5 1 _)) $$ H; iintro H
  rw [wp_ret]; imodintro; try dsimp only
  rw [wp_bind, k0_part45_eq_skeleton]; unfold k0_part45_skel
  simp only [semSignalWord, semWaitWord, Prog.lift, Prog.bind_op, Prog.bind_ret, Prog.pure_eq_ret, wp_deviceId]
  iapply (wp_dwait m ρ K c 0 1 5 35 (by decide) (.inr rfl) credit_blk (sem_send1 6 1 _)) $$ H; iintro H
  iapply (wp_dwait m ρ K c 0 1 6 35 (by decide) (.inr rfl) credit_blk (sem_send1 7 1 _)) $$ H; iintro H
  ihave H := (waits_elim m ρ K c 0 1 35) $$ H
  icases H with ⟨HR, Ha01, Hp01⟩
  ihave H := (waits_intro m ρ K c 2 0 35) $$ [HR Hc20 Ha20]
  · isplitl [HR]; · iexact HR
    isplitl [Hc20]; · iexact Hc20
    iexact Ha20
  iapply (wp_dwait m ρ K c 2 0 0 35 (by decide) (.inr rfl) credit_blk (sem_send2 1 0 _)) $$ H; iintro H
  iapply (wp_dwait m ρ K c 2 0 1 35 (by decide) (.inr rfl) credit_blk (sem_send2 2 0 _)) $$ H; iintro H
  iapply (wp_dwait m ρ K c 2 0 2 35 (by decide) (.inr rfl) credit_blk (sem_send2 3 0 _)) $$ H; iintro H
  rw [wp_ret]; imodintro; try dsimp only
  rw [wp_bind, k0_part46_eq_skeleton]; unfold k0_part46_skel
  simp only [semSignalWord, semWaitWord, Prog.lift, Prog.bind_op, Prog.bind_ret, Prog.pure_eq_ret, wp_deviceId]
  iapply (wp_dwait m ρ K c 2 0 3 35 (by decide) (.inr rfl) credit_blk (sem_send2 4 0 _)) $$ H; iintro H
  iapply (wp_dwait m ρ K c 2 0 4 35 (by decide) (.inr rfl) credit_blk (sem_send2 5 0 _)) $$ H; iintro H
  iapply (wp_dwait m ρ K c 2 0 5 35 (by decide) (.inr rfl) credit_blk (sem_send2 6 0 _)) $$ H; iintro H
  iapply (wp_dwait m ρ K c 2 0 6 35 (by decide) (.inr rfl) credit_blk (sem_send2 7 0 _)) $$ H; iintro H
  ihave H := (waits_elim m ρ K c 2 0 35) $$ H
  icases H with ⟨HR, Ha20, Hp20⟩
  ihave H := (waits_intro m ρ K c 2 1 35) $$ [HR Hc21 Ha21]
  · isplitl [HR]; · iexact HR
    isplitl [Hc21]; · iexact Hc21
    iexact Ha21
  iapply (wp_dwait m ρ K c 2 1 0 35 (by decide) (.inr rfl) credit_blk (sem_send2 1 1 _)) $$ H; iintro H
  rw [wp_ret]; imodintro; try dsimp only
  rw [wp_bind, k0_part47_eq_skeleton]; unfold k0_part47_skel
  simp only [semSignalWord, semWaitWord, Prog.lift, Prog.bind_op, Prog.bind_ret, Prog.pure_eq_ret, wp_deviceId]
  iapply (wp_dwait m ρ K c 2 1 1 35 (by decide) (.inr rfl) credit_blk (sem_send2 2 1 _)) $$ H; iintro H
  iapply (wp_dwait m ρ K c 2 1 2 35 (by decide) (.inr rfl) credit_blk (sem_send2 3 1 _)) $$ H; iintro H
  iapply (wp_dwait m ρ K c 2 1 3 35 (by decide) (.inr rfl) credit_blk (sem_send2 4 1 _)) $$ H; iintro H
  iapply (wp_dwait m ρ K c 2 1 4 35 (by decide) (.inr rfl) credit_blk (sem_send2 5 1 _)) $$ H; iintro H
  iapply (wp_dwait m ρ K c 2 1 5 35 (by decide) (.inr rfl) credit_blk (sem_send2 6 1 _)) $$ H; iintro H
  rw [wp_ret]; imodintro; try dsimp only
  iapply (wp_dwait m ρ K c 2 1 6 35 (by decide) (.inr rfl) credit_blk (sem_send2 7 1 _)) $$ H; iintro H
  ihave H := (waits_elim m ρ K c 2 1 35) $$ H
  icases H with ⟨HR, Ha21, Hp21⟩
  rw [wp_ret]
  -- everything back: the buffers whole, the counters closed
  ihave Hb0 := (half_back m ρ c 0) $$ [Hg0 Hl0 Hzero0 Hp20]
  · isplitl [Hg0]; · iexact Hg0
    isplitl [Hl0]; · iexact Hl0
    isplitl [Hzero0]; · iexact Hzero0
    iexact Hp20
  ihave Hb1 := (half_back m ρ c 1) $$ [Hg1 Hl1 Hzero1 Hp21]
  · isplitl [Hg1]; · iexact Hg1
    isplitl [Hl1]; · iexact Hl1
    isplitl [Hzero1]; · iexact Hzero1
    iexact Hp21
  ihave Hb := (Entails.of_eq (xb_halves c fullShare (G m ρ)).symm) $$ [Hb0 Hb1]
  · isplitl [Hb0]; · iexact Hb0
    iexact Hb1
  ihave Hr := (rs_back m ρ c r0) $$ [Hz0 Hrs0 Hrs1]
  · isplitl [Hz0]; · iexact Hz0
    isplitl [Hrs0]; · iexact Hrs0
    iexact Hrs1
  ihave Hout := (Entails.of_eq (out_halves c (outG m ρ)).symm) $$ [Ho0 Ho1]
  · isplitl [Ho0]; · iexact Ho0
    iexact Ho1
  imod (close_all m ρ K c) $$ [Hba Hz Ha00 Ha01 Ha10 Ha11 Ha20 Ha21 Ha30 Ha31] with ⟨Hba, Hz⟩
  · isplitr; · iexact HE
    isplitl [Hba]; · iexact Hba
    isplitl [Hz]; · iexact Hz
    rw [grid_eq (fun p h => seg 1 8 (ats (F := F) c 1 p h))]
    isplitl [Ha00 Ha01]
    · isplitl [Ha00]; · iexact Ha00
      iexact Ha01
    isplitl [Ha10 Ha11]
    · isplitl [Ha10]; · iexact Ha10
      iexact Ha11
    isplitl [Ha20 Ha21]
    · isplitl [Ha20]; · iexact Ha20
      iexact Ha21
    isplitl [Ha30]; · iexact Ha30
    iexact Ha31
  unfold run; icases HR with ⟨-, ⟨%W', HO⟩⟩
  imodintro; iapply Hk
  unfold bodyPost Φ₁
  isplitl [Hb Hr Hba Hz]
  · isplitl [Hb Hr]
    · isplitl [Hb]; · iexists _; iexact Hb
      iexact Hr
    isplitl [Hba]; · iexact Hba
    iexact Hz
  isplitl [HO]
  · iexists W'; isplitr; ipureintro; exact fun _ _ => Or.inl trivial
    rw [show (dats m ρ 0 c).owed t₀.succ = owed c 35 from (owed_end c).symm]; iexact HO
  unfold stg
  isplitl [Hx]
  · iexists _; isplitr; · ipureintro; rfl
    unfold xPts; iexact Hx
  iexists _; isplitr; · ipureintro; rfl
  iexact Hout

end Cert.KernelProof

end
-- ==== Proof.Obligation.lean ====
/-
The body's run as the launch asks for it.
-/
module

public import proofs.«01_k».proof.Proof.Body

@[expose] public section

noncomputable section

namespace Cert.KernelProof

open Cert.KernelIdeal Cert.KernelIdeal.Gen

open Idealize.ShloMosaic
open Idealize.ShloMosaic.TcCoe
open Idealize.SL Idealize.SL.RA Idealize.SL.BI
open Idealize.ShloMosaic.Rounds
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (c : Dev nD)

theorem bigSep_W (Φ : Fin cfg0.W → sProp 𝕄) : bigSep Finset.univ Φ = iprop(Φ (0 : Fin 2) ∗ Φ (1 : Fin 2)) := bigSep_W0 Φ

set_option maxRecDepth 4000 in
def bodyIn : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 100000 in
/-- The body meets the launch's obligation on every device. -/
theorem body_obligation : BodyObligation (dats (F := F) m ρ 0 c) (defs₀ (F := F)) 𝒱₀ () Set.univ := fun t => by
  rw [fin_N t]
  rw [bigSep_W, bigSep_W]
  simp only [owns_whole_eq]
  show bodyIn m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      cc0_scratch2 cc0_scratch3 cc0_scratch4 cc0_scratch5) (fun _ => bodyPost m ρ c)
  unfold bodyIn Φ₀ start
  iintro ⟨⟨⟨⟨%K, HE⟩, Hh⟩, Hb, Hr⟩, Ho, Hx, Hout⟩
  iapply (sound_body m ρ K c fun _ => bodyPost m ρ c)
  unfold bodyPre
  isplitr []
  · isplitl [HE Hh Hb Hr]
    · isplitl [HE]; · iexact HE
      isplitl [Hh]; · iexact Hh
      isplitl [Hb]; · iexact Hb
      iexact Hr
    isplitl [Ho]; · iexact Ho
    isplitl [Hx]; · iexact Hx
    iexact Hout
  · iintro H; iexact H

end Cert.KernelProof

end
-- ==== Proof.Launch.lean ====
/-
The kernel's run on all devices: what a launched device starts with, the side conditions of the launch, and the run's
post: each window's array at the contents computed, and every semaphore counter at zero.
-/
module

public import proofs.«01_k».proof.Proof.Tokens
public import proofs.«01_k».proof.Proof.Obligation
public import Idealize.ShloMosaic.Lib.Pipeline.CollectiveSegs

@[expose] public section

noncomputable section

namespace Cert.KernelProof

open Cert.KernelIdeal Cert.KernelIdeal.Gen

open Idealize.ShloMosaic
open Idealize.ShloMosaic.TcCoe
open Idealize.SL Idealize.SL.RA Idealize.SL.BI
open Idealize.ShloMosaic.Rounds
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem scratch_eq (c : Dev nD) : (Pipeline.scopedRest (Ix := Unit) (Name := ℕ) (U := UU) (Lvl := ℕ) (Val := Elt F) (τ := τ) cfg0.spec c : sProp 𝕄)
    = iprop((∃ f, ((c : Thread nD τ).loc cc0_scratch0) ↦{fullShare} f) ∗ ∃ f, ((c : Thread nD τ).loc cc0_scratch1) ↦{fullShare} f) := scopedRest0_eq c

theorem hands_intro (c : Dev nD) : iprop(Pipeline.launchCred (fun d => owed d 0) c ∗ placed (F := F) c ∗ payer (F := F) c) ⊢ hands (F := F) c := by
  have hp : placed (F := F) c = iprop(atPos ER (barCell c) 0 ∅ 0
      ∗ grid (fun p h => ats (F := F) c 0 p h 0) ∗ grid (fun p h => seg 1 8 (ats (F := F) c 0 p h))) := by
    unfold placed
    rw [bigSep_kix, ← grid_all (ats (F := F) c 0)]
    rfl
  unfold hands payer
  rw [hp]
  iintro ⟨Hcr, ⟨Hab, Ha0, Ha1⟩, Hb, Ht⟩
  ihave Hc := (creds (F := F) c) $$ Hcr
  icases Hc with ⟨Hc, H1, H3⟩
  isplitl [Hb]; · iexact Hb
  isplitl [Hc]; · iexact Hc
  isplitl [Hab]; · iexact Hab
  isplitl [Ht]; · iexact Ht
  isplitl [H1]; · iexact H1
  isplitl [H3]; · iexact H3
  isplitl [Ha0]; · iexact Ha0
  iexact Ha1

theorem env_intro (K : Dev nD × Kix → ℕ) : iprop(records m ρ K ∗ levAts L lv) ⊢ env m ρ K := by
  unfold records env
  iintro ⟨⟨HI, HR⟩, HL⟩
  isplitl [HI]; · iexact HI
  isplitl [HR]; · iexact HR
  iexact HL

theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ given m ρ c)
      ⊢ |={Set.univ}=> iprop(start m ρ c ∗ emp) := by
  unfold start given
  iintro ⟨-, Hlev, Hcr, -, ⟨⟨%K, HR⟩, HP⟩⟩
  imodintro
  isplitl
  · isplitl [Hlev HR]
    · iexists K
      iapply (env_intro m ρ K)
      isplitl [HR]; · iexact HR
      iexact Hlev
    iapply (hands_intro c)
    isplitl [Hcr]; · iexact Hcr
    iexact HP
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scratch_eq, unscopedSems0_eq]
  unfold Φ₁
  iintro ⟨Hr, HzB, Hz⟩
  isplitl [HzB]; · iexact HzB
  isplitl [Hz]
  · iapply (Entails.of_eq (own0_eq c).symm); iexact Hz
  iexact Hr

/-- The staging semaphores stand below everything a device owes. -/
theorem stageWaits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_owed c _ 0 (by fin_cases w <;> fin_cases s <;> decide)
    · show (levAts L lv : sProp 𝕄) ⊢ MayWait (c : Thread nD τ) _ () 0
      rw [MayWait_zero]; iintro -; iempintro

theorem share_eq (c : Dev nD) (w : Fin cfg0.W) : (dats m ρ 0 c).share w = fullShare := by
  unfold Dat.share; split <;> rfl

theorem ownSemFacts : Pipeline.OwnSemFacts cfg0.spec osem := by decide

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On eight devices, for any float values, from any memory with zero counters: every weakly fair execution terminates,
    and ends with each window's array at the contents computed and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d 0) (howed₀ := fun _ => rfl) (howedN := fun _ => rfl)
    (L := L) (lv := lv) (hL := L_of_ne) (hwaits := stageWaits m ρ)
    (G := dealt m ρ) (G' := given m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array ends as it began. -/
theorem finalA_arg (c : Dev nD) : finalA m ρ c (0 : Fin 2) = (s₀ m ρ).mem (win0_0.arr.view.loc (c : Thread nD τ)) :=
  (dats (F := F) m ρ 0 c).arrAt_in (0 : Fin 2) rfl _

end Cert.KernelProof

end
-- ==== Proof.Values.lean ====
/-
The kernel's result in the ideal instance: every device's result array holds, at each index, the sum over the eight
devices of what their argument arrays hold there.
-/
module

public import proofs.«01_k».proof.Proof.Launch
public import Idealize.ShloMosaic.Lib.Pipeline.ValueKit.Geometry
public import Idealize.ShloMosaic.PureOps.Ideal.Laws

@[expose] public section

noncomputable section

namespace Cert.KernelProof

open Cert.KernelIdeal Cert.KernelIdeal.Gen

open Idealize.ShloMosaic
open Idealize.ShloMosaic.TcCoe
open Idealize.SL Idealize.SL.RA Idealize.SL.BI
open Idealize.ShloMosaic.Rounds
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ UU ℕ

open Idealize.ShloMosaic.ValueIdx

variable (m : (ℓ : Loc nD τ sig) → Buf (Elt F) ℓ) (ρ : Dev nD → PrngReg)

/-! ## The arrays after the run -/

/-- The operand as staged is the argument array. -/
theorem X_eq (c : Dev nD) (i : S1024x512.Idx) : X m ρ c i = m ((c : Thread nD τ).loc main_arg0) i := by
  unfold X
  rw [View.read_apply]
  refine congrArg (m ((c : Thread nD τ).loc main_arg0)) ?_
  funext a
  match a with
  | ⟨0, _⟩ => exact Fin.ext (by show 0 * 1024 + 1 * (i 0).val = (i 0).val; omega)
  | ⟨1, _⟩ => exact Fin.ext (by show 0 * 512 + 1 * (i 1).val = (i 1).val; omega)

theorem whole_out : (cfg0.win (1 : Fin 2)).WholeAt t₀ := by decide +kernel

/-- The result array ends as the body left its staging buffer. -/
theorem finalA_out (c : Dev nD) : finalA m ρ c (1 : Fin 2) = outG m ρ :=
  (dats m ρ 0 c).arrAt_eq_of_after_last (1 : Fin 2) t₀ whole_out (outG m ρ) fun j => rfl

/-- The run's post by buffer. -/
theorem run_values : θ_run defs (onTc (τ := τ) (main (F := F))) (s₀ m ρ) (fun r =>
    (∀ c : Dev nD, r.2.mem ((c : Thread nD τ).loc main_v1) = outG m ρ ∧ r.2.mem ((c : Thread nD τ).loc main_arg0) = m ((c : Thread nD τ).loc main_arg0))
      ∧ r.2.sem = fun _ => 0) :=
  (θ_run defs _ _).mono (fun r h => ⟨fun c => ⟨(h.1 c (1 : Fin 2)).trans (finalA_out m ρ c), (h.1 c (0 : Fin 2)).trans (finalA_arg m ρ c)⟩, h.2⟩) (run_main m ρ)

/-! ## The sum -/

section Sum
variable (m : (ℓ : Loc nD τ sig) → Buf (Elt Ideal) ℓ)

/-- A device's argument at an index, an extended real. -/
def argAt (c : Dev nD) (i : S1024x512.Idx) : EReal := m ((c : Thread nD τ).loc main_arg0) i
theorem X_argAt (c : Dev nD) (i : S1024x512.Idx) : X m ρ c i = argAt m c i := X_eq m ρ c i

/-- The sum over the devices of their arguments at an index. -/
def total (i : S1024x512.Idx) : EReal := ∑ d : Fin 8, argAt m d i

theorem ownV_apply (c : Dev nD) (h : Fin 2) (x : S128x256.Idx) : ownV m ρ c h x = argAt m c ((blkM c h).view.emb x) := by
  rw [← X_argAt ρ m]
  unfold ownV
  rw [View.readAt_apply]
  rfl
theorem addSlot_apply (c : Dev nD) (k : Fin 8) (h : Fin 2) (a : FVec Ideal S128x256 .bf16) (x : S128x256.Idx) (y : EReal) (hy : a x = y) :
    addSlot a (slotV m ρ c k h) x = y + argAt m (bwd c k) ((blkM c h).view.emb x) := by
  have e : shapeCast S128x256 (slotV m ρ c k h) shapeCasts_S1x128x256_S128x256 x = RS m ρ c ((slotM k h).view.emb x) := rfl
  have e' : RS m ρ c ((slotM k h).view.emb x) = X m ρ (bwd c k) ((blkM c h).view.emb x) := by rw [slot_at, blk_at]; rfl
  rw [← hy, ← X_argAt ρ m, ← e', ← e]
  rfl

/-- A reduced block is the sum over the devices of that block of their arguments. -/
theorem redV_apply (c : Dev nD) (h : Fin 2) (x : S128x256.Idx) : redV m ρ c h x = total m ((blkM c h).view.emb x) := by
  have e := (bwdEquiv c).sum_comp fun d : Fin 8 => argAt m d ((blkM c h).view.emb x)
  rw [Fin.sum_univ_eight] at e
  refine Eq.trans ?_ e
  unfold redV
  rw [shapeCast_self]
  refine addSlot_apply ρ m c 7 h _ x _ (addSlot_apply ρ m c 6 h _ x _ (addSlot_apply ρ m c 5 h _ x _ (addSlot_apply ρ m c 4 h _ x _
    (addSlot_apply ρ m c 3 h _ x _ (addSlot_apply ρ m c 2 h _ x _ (addSlot_apply ρ m c 1 h _ x _ ?_))))))
  rw [ownV_apply]
  show _ = argAt m (bwd c 0) _
  rw [bwd_zero]

/-- The kernel's result at an index. -/
theorem outG_apply (i : S1024x512.Idx) : outG m ρ i = total m i := by
  have e : outG m ρ i = G m ρ i := rfl
  rw [e]
  unfold G
  rw [redV_apply]
  refine congrArg (total m) ?_
  rw [blk_at]
  have h0 := idx2_lt0 i
  have h1 := idx2_lt1 i
  exact Shape.idx_ext₂ (by show 128 * ((i 0).val / 128) + (i 0).val % 128 = (i 0).val; omega) (by show 256 * ((i 1).val / 256) + (i 1).val % 256 = (i 1).val; omega)

end Sum

end Cert.KernelProof

end
-- ==== Proof.Equation.lean ====
/-
The reference's result in the ideal instance: at each index, the sum over the eight blocks of rows of its argument; and
the kernel's result is that, when every device's argument is its block.
-/
module

public import proofs.«01_k».proof.Proof.Values
public import proofs.«01_k».proof.Proof.Gen.ReferenceIdeal.Run
public import proofs.«01_k».proof.Defs
public import Idealize.ShloMosaic.Lib.IdealHost

@[expose] public section

noncomputable section

namespace Cert.KernelProof

open Idealize.ShloMosaic
open Idealize.ShloMosaic.TcCoe
open Idealize.ShloMosaic.ValueIdx
open Cert.ReferenceIdeal Cert.ReferenceIdeal.Gen

/-- The reference's result, of its argument. -/
def refOut (x : FVec Ideal S8192x512 .bf16) : FVec Ideal S1024x512 .f32 :=
  extf .f32 (truncf .bf16 (Host.reduceAdd (extf .f32 (shapeCast S8x1024x512 x shapeCasts_S8192x512_S8x1024x512 : FVec Ideal S8x1024x512 .bf16) bitsLt_bf16_f32)
    (constant S_ .f32 0x00000000#32) reducesTo_S8x1024x512_S1024x512_d0 h_S_) bitsLt_bf16_f32) bitsLt_bf16_f32

theorem row8_lt (d : Fin 8) (r : Fin 1024) : d.val * 1024 + r.val < 8192 := by omega

/-- The argument at row `r` of block `d`. -/
def rowAt (x : FVec Ideal S8192x512 .bf16) (d : Fin 8) (i : S1024x512.Idx) : EReal :=
  x (ix2 (⟨d.val * 1024 + (i 0).val, row8_lt d (i 0)⟩ : Fin 8192) (i 1))

theorem reduces0 : S8x1024x512.Reduces [0] S1024x512 := by decide

/-- The argument reshaped, at block `d`. -/
theorem cast_lift (x : FVec Ideal S8192x512 .bf16) (d : Fin 8) (i : S1024x512.Idx) :
    shapeCast S8x1024x512 x shapeCasts_S8192x512_S8x1024x512 (reduces0.lift i d) = rowAt x d i := by
  have e : reduces0.lift i d = (ix3 d (i 0) (i 1) : S8x1024x512.Idx) := by
    funext a
    match a with
    | ⟨0, _⟩ => rfl
    | ⟨1, _⟩ => rfl
    | ⟨2, _⟩ => rfl
  rw [e]
  exact shapeCast_apply x _ _ _ (by
    rw [Shape.rowMajor_val_three, Shape.rowMajor_val_two]
    rfl)

/-- The reference's result at an index. -/
theorem refOut_apply (x : FVec Ideal S8192x512 .bf16) (i : S1024x512.Idx) : (∑ d : Fin 8, rowAt x d i) = refOut x i := by
  have e : refOut x i = Host.reduceAdd (extf .f32 (shapeCast S8x1024x512 x shapeCasts_S8192x512_S8x1024x512 : FVec Ideal S8x1024x512 .bf16) bitsLt_bf16_f32)
    (constant S_ .f32 0x00000000#32) reducesTo_S8x1024x512_S1024x512_d0 h_S_ i := rfl
  rw [e, hostReduceAdd_apply, Ideal.hostReduceAdd_single _ reduces0]
  have z : (constant S_ .f32 0x00000000#32 : FVec Ideal S_ .f32) (Shape.Idx.first h_S_) = (0 : EReal) := Ideal.ofBits_zero_f32
  rw [z, zero_add]
  exact Finset.sum_congr rfl fun d _ => (cast_lift x d i).symm

/-- Every device's argument its block, the kernel's result is the reference's. -/
theorem outG_eq (m : (ℓ : Loc Cert.KernelIdeal.nD Cert.KernelIdeal.τ Cert.KernelIdeal.sig) → Buf (Elt Ideal) ℓ) (ρ : Dev Cert.KernelIdeal.nD → PrngReg)
    (x : FVec Ideal S8192x512 .bf16)
    (hx : ∀ c : Dev Cert.KernelIdeal.nD, m ((c.tc : Thread Cert.KernelIdeal.nD Cert.KernelIdeal.τ).loc Cert.KernelIdeal.main_arg0)
      = Layout.block ⟨2, ![1024, 512]⟩ ⟨2, ![8192, 512]⟩ 0 8 c x) :
    outG m ρ = refOut x := by
  have e : ∀ i, total m i = ∑ d : Fin 8, rowAt x d i := fun i => by
    unfold total
    refine Finset.sum_congr rfl fun d _ => ?_
    unfold argAt
    refine (congrFun (hx d) i).trans ?_
    rw [Layout.block_apply]
    refine congrArg x ?_
    funext a
    match a with
    | ⟨0, _⟩ => rfl
    | ⟨1, _⟩ => rfl
  funext i
  exact (outG_apply ρ m i).trans ((e i).trans (refOut_apply x i))

end Cert.KernelProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.KernelProof

/-- The two printings of the kernel have one body table. -/
theorem table_eq : @Cert.Kernel.defs₀ Bits _ _ = @Cert.KernelIdeal.defs₀ Bits _ _ := by
  funext p l x
  cases p with
  | tc => match l, x with
    | (0 : Fin 1), x => exact rfl
  | _ => rfl
theorem defs_eq : @Cert.Kernel.defs Bits _ _ = @Cert.KernelIdeal.defs Bits _ _ := congrArg (Pipeline.defs (Cert.Kernel.pcfgs (F := Bits))) table_eq

/-- The kernel as printed is the text the run is proved of, read at the machine's floats. -/
theorem kernel_frame : Cert.quiescent_Kernel := fun m ρ _ => by
  have h : θ_run (Cert.KernelIdeal.defs (F := Bits)) (onTc (τ := Cert.KernelIdeal.τ) (Cert.KernelIdeal.main (F := Bits))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
    (θ_run Cert.KernelIdeal.defs _ _).mono (fun r h => ⟨fun c => (h.1 c).2, h.2⟩) (run_values (F := Bits) m ρ)
  rw [defs_eq]
  exact h

theorem ideal_frame : Cert.quiescent_KernelIdeal := fun m ρ _ =>
  (θ_run Cert.KernelIdeal.defs _ _).mono (fun r h => ⟨fun c => (h.1 c).2, h.2⟩) (run_values (F := Ideal) m ρ)

/-- The reference has no semaphore. -/
theorem reference_frame : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- On eight devices the sum of the argument's eight blocks of rows, at every device. -/
theorem value : Cert.algebraic_KernelIdeal_ReferenceIdeal := fun m ρ m' ρ' _ hx =>
  ⟨refOut (m' (((0 : Dev Cert.ReferenceIdeal.nD).tc : Thread Cert.ReferenceIdeal.nD Cert.ReferenceIdeal.τ).loc Cert.ReferenceIdeal.main_arg0)),
    (θ_run Cert.KernelIdeal.defs _ _).mono (fun r h c => ⟨(h.1 c).1.trans (outG_eq m ρ _ hx), (h.1 c).2⟩) (run_values (F := Ideal) m ρ),
    (θ_run Cert.ReferenceIdeal.defs _ _).mono (fun r h => h 0) (Cert.ReferenceIdeal.Value.run m' ρ')⟩

theorem claim : Cert.Claim :=
  ⟨Cert.Kernel.Gen.facts, Cert.KernelIdeal.Gen.facts, Cert.ReferenceIdeal.Gen.facts, kernel_frame, ideal_frame, reference_frame, trivial, value⟩

end Cert.Proof

end
